-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree_segments [hPre_tree_segments : Cert.Pre_tree_segments.Facts] (m : (ℓ : Loc Cert.KernelIdeal.nD Cert.KernelIdeal.τ Cert.KernelIdeal.sig) → Buf (Elt Ideal) ℓ) : Prop :=
  ∀ c : Dev Cert.KernelIdeal.nD,
    (Cert.Pre_tree_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_segments [hPre_tree_segments : Cert.Pre_tree_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tree_segments [hKernelIdeal : Cert.KernelIdeal.Facts] [hPre_tree_segments : Cert.Pre_tree_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_segments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tree_segments [hReferenceIdeal : Cert.ReferenceIdeal.Facts] [hPre_tree_segments : Cert.Pre_tree_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_tree_segments [hKernelIdeal : Cert.KernelIdeal.Facts] [hReferenceIdeal : Cert.ReferenceIdeal.Facts] [hPre_tree_segments : Cert.Pre_tree_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v26_3)) (v3 : (c : Dev Cert.KernelIdeal.nD) → Buf (Elt Ideal) ((c.tc : Thread Cert.KernelIdeal.nD Cert.KernelIdeal.τ).loc Cert.KernelIdeal.main_v26_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v26_3) = v2 c
          ∧ r.2.mem ((c.tc : Thread Cert.KernelIdeal.nD Cert.KernelIdeal.τ).loc Cert.KernelIdeal.main_v26_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tree_segments : Cert.Pre_tree_segments.Facts),
    quiescent_Kernel (hKernel := hKernel)
    ∧ quiescent_KernelIdeal (hKernelIdeal := hKernelIdeal)
    ∧ quiescent_KernelIdeal_pre_tree_segments (hKernelIdeal := hKernelIdeal) (hPre_tree_segments := hPre_tree_segments)
    ∧ quiescent_ReferenceIdeal (hReferenceIdeal := hReferenceIdeal)
    ∧ quiescent_ReferenceIdeal_pre_tree_segments (hReferenceIdeal := hReferenceIdeal) (hPre_tree_segments := hPre_tree_segments)
    ∧ preserves_Kernel_KernelIdeal
    ∧ algebraic_KernelIdeal_ReferenceIdeal_pre_tree_segments (hKernelIdeal := hKernelIdeal) (hReferenceIdeal := hReferenceIdeal) (hPre_tree_segments := hPre_tree_segments)
-- ==== Pre_tree_segments.lean ====
abbrev S4096x1000 : Shape := ⟨2, ![4096, 1000]⟩
abbrev S9976 : Shape := ⟨1, ![9976]⟩
abbrev S1998 : Shape := ⟨1, ![1998]⟩
abbrev S_ : Shape := ⟨0, ![]⟩
abbrev S1 : Shape := ⟨1, ![1]⟩
abbrev S1997 : Shape := ⟨1, ![1997]⟩
abbrev S1x9976 : Shape := ⟨2, ![1, 9976]⟩
abbrev S1998x1 : Shape := ⟨2, ![1998, 1]⟩
abbrev S1998x9976 : Shape := ⟨2, ![1998, 9976]⟩
abbrev S9975 : Shape := ⟨1, ![9975]⟩

class Facts : Prop where
  bcast_S_S1 : S_.BroadcastsInDim S1 (![] : Fin 0 → Fin S1.rank)
  bcast_S_S_ : S_.BroadcastsInDim S_ (![] : Fin 0 → Fin S_.rank)
  reduceWindows_S1998_S1998_w1998s1p1997_0 : S1998.ReduceWindows (![1998] : Fin 1 → Nat) ![1] ![1997] ![0] S1998
  h_S_ : 0 < S_.numel
  slices_S1998_S1997_0 : S1998.Slices ![0] S1997
  concatenates_S1_S1997_S1998_d0 : Shape.Concatenates [S1, S1997] S1998 0
  bcast_S9976_S1x9976_1 : S9976.BroadcastsInDim S1x9976 (![1] : Fin 1 → Fin S1x9976.rank)
  bcast_S1998_S1998x1_0 : S1998.BroadcastsInDim S1998x1 (![0] : Fin 1 → Fin S1998x1.rank)
  bcast_S1x9976_S1998x9976_0_1 : S1x9976.BroadcastsInDim S1998x9976 (![0, 1] : Fin 2 → Fin S1998x9976.rank)
  bcast_S1998x1_S1998x9976_0_1 : S1998x1.BroadcastsInDim S1998x9976 (![0, 1] : Fin 2 → Fin S1998x9976.rank)
  slices_S9976_S9975_1 : S9976.Slices ![1] S9975
  slices_S9976_S9975_0 : S9976.Slices ![0] S9975
  bcast_S_S4096x1000 : S_.BroadcastsInDim S4096x1000 (![] : Fin 0 → Fin S4096x1000.rank)
  reducesTo_S4096x1000_S_d0_1 : S4096x1000.ReducesTo [0, 1] S_
  reducesTo_S1998_S_d0 : S1998.ReducesTo [0] S_
  bcast_S_S1998 : S_.BroadcastsInDim S1998 (![] : Fin 0 → Fin S1998.rank)
  reducesTo_S1998x9976_S_d0_1 : S1998x9976.ReducesTo [0, 1] S_
  bcast_S_S9976 : S_.BroadcastsInDim S9976 (![] : Fin 0 → Fin S9976.rank)
  reducesTo_S9976_S_d0 : S9976.ReducesTo [0] S_
  bcast_S_S9975 : S_.BroadcastsInDim S9975 (![] : Fin 0 → Fin S9975.rank)
  reducesTo_S9975_S_d0 : S9975.ReducesTo [0] S_

variable [Facts]

def fn_cumsum_0 {F : FTy → Type} [FloatOps F] (arg0 : IVec S1998 32) : IVec S1998 32 :=
  let c : IVec S_ 32 := constantI S_ 32 0#32
  let v0 : IVec S_ 32 := broadcastInDim S_ ![] bcast_S_S_ c
  let v1 : IVec S1998 32 := (fun x v => Host.reduceWindow IntOp.addi ![1998] ![1] ![1997] ![0] x v reduceWindows_S1998_S1998_w1998s1p1997_0 h_S_) arg0 v0
  v1

def fn_cumsum {F : FTy → Type} [FloatOps F] (arg0 : IVec S1998 32) : IVec S1998 32 :=
  let v0 : IVec S1998 32 := fn_cumsum_0 (F := F) arg0
  v0

def fn_part3 {F : FTy → Type} [FloatOps F] (main_arg1 : IVec S9976 32) (main_v56 : IVec S_ 1) (main_v57 : IVec S9975 1) (main_v58 : IVec S9975 32) : IVec S_ 1 :=
  let main_v59 : IVec S9975 32 := (extractStridedSlice S9975 ![0] · slices_S9976_S9975_0) main_arg1
  let main_c_11 : IVec S_ 32 := constantI S_ 32 1#32
  let main_v60 : IVec S9975 32 := broadcastInDim S9975 ![] bcast_S_S9975 main_c_11
  let main_v61 : IVec S9975 32 := addi main_v59 main_v60
  let main_v62 : IVec S9975 1 := cmpi .eq main_v58 main_v61
  let main_v63 : IVec S9975 1 := ori main_v57 main_v62
  let main_c_12 : IVec S_ 1 := constantI S_ 1 1#1
  let main_v64 : IVec S_ 1 := (fun x v => Host.reduce IntOp.andi x v reducesTo_S9975_S_d0 h_S_) main_v63 main_c_12
  let main_v65 : IVec S_ 1 := andi main_v56 main_v64
  main_v65

def fn_part2 {F : FTy → Type} [FloatOps F] (main_arg1 : IVec S9976 32) (main_v5 : IVec S1998 32) (main_v16 : IVec S1998x9976 1) (main_v22 : IVec S1998x9976 1) (main_v25 : IVec S9975 1) (main_v37 : IVec S_ 1) (main_v39 : IVec S1998 1) (main_v40 : IVec S1998 1) : IVec S_ 1 :=
  let main_v41 : IVec S1998 1 := andi main_v39 main_v40
  let main_c_5 : IVec S_ 32 := constantI S_ 32 9976#32
  let main_v42 : IVec S1998 32 := broadcastInDim S1998 ![] bcast_S_S1998 main_c_5
  let main_v43 : IVec S1998 1 := cmpi .sle main_v5 main_v42
  let main_v44 : IVec S1998 1 := andi main_v41 main_v43
  let main_c_6 : IVec S_ 1 := constantI S_ 1 1#1
  let main_v45 : IVec S_ 1 := (fun x v => Host.reduce IntOp.andi x v reducesTo_S1998_S_d0 h_S_) main_v44 main_c_6
  let main_v46 : IVec S_ 1 := andi main_v37 main_v45
  let main_v47 : IVec S1998x9976 1 := cmpi .eq main_v16 main_v22
  let main_c_7 : IVec S_ 1 := constantI S_ 1 1#1
  let main_v48 : IVec S_ 1 := (fun x v => Host.reduce IntOp.andi x v reducesTo_S1998x9976_S_d0_1 h_S_) main_v47 main_c_7
  let main_v49 : IVec S_ 1 := andi main_v46 main_v48
  let main_c_8 : IVec S_ 32 := constantI S_ 32 0#32
  let main_v50 : IVec S9976 32 := broadcastInDim S9976 ![] bcast_S_S9976 main_c_8
  let main_v51 : IVec S9976 1 := cmpi .sge main_arg1 main_v50
  let main_c_9 : IVec S_ 32 := constantI S_ 32 1000#32
  let main_v52 : IVec S9976 32 := broadcastInDim S9976 ![] bcast_S_S9976 main_c_9
  let main_v53 : IVec S9976 1 := cmpi .slt main_arg1 main_v52
  let main_v54 : IVec S9976 1 := andi main_v51 main_v53
  let main_c_10 : IVec S_ 1 := constantI S_ 1 1#1
  let main_v55 : IVec S_ 1 := (fun x v => Host.reduce IntOp.andi x v reducesTo_S9976_S_d0 h_S_) main_v54 main_c_10
  let main_v56 : IVec S_ 1 := andi main_v49 main_v55
  let main_v57 : IVec S9975 1 := noti main_v25
  let main_v58 : IVec S9975 32 := (extractStridedSlice S9975 ![1] · slices_S9976_S9975_1) main_arg1
  fn_part3 (F := F) main_arg1 main_v56 main_v57 main_v58

def fn_part1 {F : FTy → Type} [FloatOps F] (main_arg0 : FVec F S4096x1000 .f32) (main_arg1 : IVec S9976 32) (main_arg2 : IVec S9976 32) (main_arg3 : FVec F S1998 .f32) (main_v0 : IVec S1998 32) (main_v4 : IVec S1998 32) (main_v5 : IVec S1998 32) (main_v16 : IVec S1998x9976 1) (main_v22 : IVec S1998x9976 1) : IVec S_ 1 :=
  let main_v23 : IVec S9975 32 := (extractStridedSlice S9975 ![1] · slices_S9976_S9975_1) main_arg2
  let main_v24 : IVec S9975 32 := (extractStridedSlice S9975 ![0] · slices_S9976_S9975_0) main_arg2
  let main_v25 : IVec S9975 1 := cmpi .eq main_v23 main_v24
  let main_v26 : FVec F S4096x1000 .f32 := Host.absf main_arg0
  let main_cst : FVec F S_ .f32 := constant S_ .f32 0x7F800000#32
  let main_v27 : FVec F S4096x1000 .f32 := broadcastInDim S4096x1000 ![] bcast_S_S4096x1000 main_cst
  let main_v28 : IVec S4096x1000 1 := cmpf .olt main_v26 main_v27
  let main_c_0 : IVec S_ 1 := constantI S_ 1 1#1
  let main_v29 : IVec S_ 1 := (fun x v => Host.reduce IntOp.andi x v reducesTo_S4096x1000_S_d0_1 h_S_) main_v28 main_c_0
  let main_v30 : FVec F S1998 .f32 := sitofp .f32 main_v0
  let main_v31 : IVec S1998 1 := cmpf .oeq main_v30 main_arg3
  let main_c_1 : IVec S_ 1 := constantI S_ 1 1#1
  let main_v32 : IVec S_ 1 := (fun x v => Host.reduce IntOp.andi x v reducesTo_S1998_S_d0 h_S_) main_v31 main_c_1
  let main_v33 : IVec S_ 1 := andi main_v29 main_v32
  let main_c_2 : IVec S_ 32 := constantI S_ 32 1#32
  let main_v34 : IVec S1998 32 := broadcastInDim S1998 ![] bcast_S_S1998 main_c_2
  let main_v35 : IVec S1998 1 := cmpi .sge main_v0 main_v34
  let main_c_3 : IVec S_ 1 := constantI S_ 1 1#1
  let main_v36 : IVec S_ 1 := (fun x v => Host.reduce IntOp.andi x v reducesTo_S1998_S_d0 h_S_) main_v35 main_c_3
  let main_v37 : IVec S_ 1 := andi main_v33 main_v36
  let main_c_4 : IVec S_ 32 := constantI S_ 32 0#32
  let main_v38 : IVec S1998 32 := broadcastInDim S1998 ![] bcast_S_S1998 main_c_4
  let main_v39 : IVec S1998 1 := cmpi .sge main_v4 main_v38
  let main_v40 : IVec S1998 1 := cmpi .slt main_v4 main_v5
  fn_part2 (F := F) main_arg1 main_v5 main_v16 main_v22 main_v25 main_v37 main_v39 main_v40

def fn {F : FTy → Type} [FloatOps F] (main_arg0 : FVec F S4096x1000 .f32) (main_arg1 : IVec S9976 32) (main_arg2 : IVec S9976 32) (main_arg3 : FVec F S1998 .f32) : IVec S_ 1 :=
  let main_v0 : IVec S1998 32 := fptosi 32 main_arg3
  let main_c : IVec S_ 32 := constantI S_ 32 0#32
  let main_v1 : IVec S1 32 := broadcastInDim S1 ![] bcast_S_S1 main_c
  let main_v2 : IVec S1998 32 := fn_cumsum (F := F) main_v0
  let main_v3 : IVec S1997 32 := (extractStridedSlice S1997 ![0] · slices_S1998_S1997_0) main_v2
  let main_v4 : IVec S1998 32 := (fun a b => concatenate S1998 0 [⟨S1, a⟩, ⟨S1997, b⟩] concatenates_S1_S1997_S1998_d0) main_v1 main_v3
  let main_v5 : IVec S1998 32 := addi main_v4 main_v0
  let main_v6 : IVec S9976 32 := iotaInDim S9976 32 0
  let main_v7 : IVec S1x9976 32 := broadcastInDim S1x9976 ![1] bcast_S9976_S1x9976_1 main_v6
  let main_v8 : IVec S1998x1 32 := broadcastInDim S1998x1 ![0] bcast_S1998_S1998x1_0 main_v4
  let main_v9 : IVec S1998x9976 32 := broadcastInDim S1998x9976 ![0, 1] bcast_S1x9976_S1998x9976_0_1 main_v7
  let main_v10 : IVec S1998x9976 32 := broadcastInDim S1998x9976 ![0, 1] bcast_S1998x1_S1998x9976_0_1 main_v8
  let main_v11 : IVec S1998x9976 1 := cmpi .sge main_v9 main_v10
  let main_v12 : IVec S1998x1 32 := broadcastInDim S1998x1 ![0] bcast_S1998_S1998x1_0 main_v5
  let main_v13 : IVec S1998x9976 32 := broadcastInDim S1998x9976 ![0, 1] bcast_S1x9976_S1998x9976_0_1 main_v7
  let main_v14 : IVec S1998x9976 32 := broadcastInDim S1998x9976 ![0, 1] bcast_S1998x1_S1998x9976_0_1 main_v12
  let main_v15 : IVec S1998x9976 1 := cmpi .slt main_v13 main_v14
  let main_v16 : IVec S1998x9976 1 := andi main_v11 main_v15
  let main_v17 : IVec S1x9976 32 := broadcastInDim S1x9976 ![1] bcast_S9976_S1x9976_1 main_arg2
  let main_v18 : IVec S1998 32 := iotaInDim S1998 32 0
  let main_v19 : IVec S1998x1 32 := broadcastInDim S1998x1 ![0] bcast_S1998_S1998x1_0 main_v18
  let main_v20 : IVec S1998x9976 32 := broadcastInDim S1998x9976 ![0, 1] bcast_S1x9976_S1998x9976_0_1 main_v17
  let main_v21 : IVec S1998x9976 32 := broadcastInDim S1998x9976 ![0, 1] bcast_S1998x1_S1998x9976_0_1 main_v19
  let main_v22 : IVec S1998x9976 1 := cmpi .eq main_v20 main_v21
  fn_part1 (F := F) main_arg0 main_arg1 main_arg2 main_arg3 main_v0 main_v4 main_v5 main_v16 main_v22
-- ==== Kernel.lean ====
abbrev S4096x1000 : Shape := ⟨2, ![4096, 1000]⟩
abbrev S9976 : Shape := ⟨1, ![9976]⟩
abbrev S1998 : Shape := ⟨1, ![1998]⟩
abbrev S_ : Shape := ⟨0, ![]⟩
abbrev S1 : Shape := ⟨1, ![1]⟩
abbrev S1997 : Shape := ⟨1, ![1997]⟩
abbrev S1998x1 : Shape := ⟨2, ![1998, 1]⟩
abbrev S999 : Shape := ⟨1, ![999]⟩
abbrev S999x1 : Shape := ⟨2, ![999, 1]⟩
abbrev S1000x4096 : Shape := ⟨2, ![1000, 4096]⟩
abbrev S999x4096 : Shape := ⟨2, ![999, 4096]⟩
abbrev S512x1 : Shape := ⟨2, ![512, 1]⟩
abbrev S1000x1024 : Shape := ⟨2, ![1000, 1024]⟩
abbrev S512x1024 : Shape := ⟨2, ![512, 1024]⟩
abbrev S512x1000 : Shape := ⟨2, ![512, 1000]⟩
abbrev S999x4096x1 : Shape := ⟨3, ![999, 4096, 1]⟩
abbrev S999x4096x2 : Shape := ⟨3, ![999, 4096, 2]⟩

abbrev nBuf : Space → Nat
  | .hbm => 49
  | .vmem => 24
  | .smem => 0
  | _ => 0

abbrev bufTy : (tb : Table) → Fin (tcTables nBuf tb) → BufTy
  | .hbm, ⟨0, _⟩ => ⟨S4096x1000, .f32⟩
  | .hbm, ⟨1, _⟩ => ⟨S9976, .i32⟩
  | .hbm, ⟨2, _⟩ => ⟨S9976, .i32⟩
  | .hbm, ⟨3, _⟩ => ⟨S1998, .f32⟩
  | .hbm, ⟨4, _⟩ => ⟨S1998, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S1998, .i32⟩
  | .hbm, ⟨10, _⟩ => ⟨S1997, .i32⟩
  | .hbm, ⟨11, _⟩ => ⟨S1998, .i32⟩
  | .hbm, ⟨12, _⟩ => ⟨S_, .i32⟩
  | .hbm, ⟨13, _⟩ => ⟨S1998, .i32⟩
  | .hbm, ⟨14, _⟩ => ⟨S1998, .i1⟩
  | .hbm, ⟨15, _⟩ => ⟨S_, .i32⟩
  | .hbm, ⟨16, _⟩ => ⟨S1998, .i32⟩
  | .hbm, ⟨17, _⟩ => ⟨S1998, .i32⟩
  | .hbm, ⟨18, _⟩ => ⟨S1998, .i32⟩
  | .hbm, ⟨19, _⟩ => ⟨S1998x1, .i32⟩
  | .hbm, ⟨20, _⟩ => ⟨S1998, .i32⟩
  | .hbm, ⟨21, _⟩ => ⟨S1998, .i32⟩
  | .hbm, ⟨22, _⟩ => ⟨S999, .i32⟩
  | .hbm, ⟨23, _⟩ => ⟨S999x1, .i32⟩
  | .hbm, ⟨24, _⟩ => ⟨S999, .i32⟩
  | .hbm, ⟨25, _⟩ => ⟨S999x1, .i32⟩
  | .hbm, ⟨26, _⟩ => ⟨S999, .i32⟩
  | .hbm, ⟨27, _⟩ => ⟨S999x1, .i32⟩
  | .hbm, ⟨28, _⟩ => ⟨S999, .i32⟩
  | .hbm, ⟨29, _⟩ => ⟨S999x1, .i32⟩
  | .hbm, ⟨30, _⟩ => ⟨S999, .f32⟩
  | .hbm, ⟨31, _⟩ => ⟨S999x1, .f32⟩
  | .hbm, ⟨32, _⟩ => ⟨S999, .f32⟩
  | .hbm, ⟨33, _⟩ => ⟨S999x1, .f32⟩
  | .hbm, ⟨34, _⟩ => ⟨S1000x4096, .f32⟩
  | .hbm, ⟨35, _⟩ => ⟨S999x4096, .f32⟩
  | .hbm, ⟨36, _⟩ => ⟨S999x4096, .f32⟩
  | .hbm, ⟨37, _⟩ => ⟨S999x4096, .f32⟩
  | .hbm, ⟨38, _⟩ => ⟨S999x4096, .i32⟩
  | .hbm, ⟨39, _⟩ => ⟨S999x4096, .f32⟩
  | .hbm, ⟨40, _⟩ => ⟨S999x4096x1, .f32⟩
  | .hbm, ⟨41, _⟩ => ⟨S999x4096x1, .f32⟩
  | .hbm, ⟨42, _⟩ => ⟨S999x4096x2, .f32⟩
  | .hbm, ⟨43, _⟩ => ⟨S_, .f32⟩
  | .hbm, ⟨44, _⟩ => ⟨S999x4096, .f32⟩
  | .hbm, ⟨45, _⟩ => ⟨S999x4096, .f32⟩
  | .hbm, ⟨46, _⟩ => ⟨S999x4096x1, .f32⟩
  | .hbm, ⟨47, _⟩ => ⟨S999x4096x1, .f32⟩
  | .hbm, ⟨48, _⟩ => ⟨S999x4096x2, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x1, .i32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S512x1, .f32⟩
  | .local _ .vmem, ⟨11, _⟩ => ⟨S512x1, .f32⟩
  | .local _ .vmem, ⟨12, _⟩ => ⟨S1000x1024, .f32⟩
  | .local _ .vmem, ⟨13, _⟩ => ⟨S1000x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .i32⟩
  | .local _ .vmem, ⟨21, _⟩ => ⟨S512x1024, .i32⟩
  | .local _ .vmem, ⟨22, _⟩ => ⟨S512x1024, .f32⟩
  | .local _ .vmem, ⟨23, _⟩ => ⟨S512x1024, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_call0_call0_c : Ref sig .tc := ⟨.hbm, 7, rfl⟩
abbrev main_call0_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev main_v26_2 : Ref sig .tc := ⟨.hbm, 37, rfl⟩
abbrev main_v26_3 : Ref sig .tc := ⟨.hbm, 38, rfl⟩
abbrev main_v26_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1000x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x1000 : Shape := ⟨2, ![4096, 1000]⟩
abbrev S9976 : Shape := ⟨1, ![9976]⟩
abbrev S1998 : Shape := ⟨1, ![1998]⟩
abbrev S1000x4096 : Shape := ⟨2, ![1000, 4096]⟩
abbrev S_ : Shape := ⟨0, ![]⟩
abbrev S9976x1 : Shape := ⟨2, ![9976, 1]⟩
abbrev S9976x4096 : Shape := ⟨2, ![9976, 4096]⟩
abbrev S1998x4096 : Shape := ⟨2, ![1998, 4096]⟩
abbrev S1998x1 : Shape := ⟨2, ![1998, 1]⟩
abbrev S999x2x4096 : Shape := ⟨3, ![999, 2, 4096]⟩
abbrev S999x4096x2 : Shape := ⟨3, ![999, 4096, 2]⟩
abbrev S999x4096 : Shape := ⟨2, ![999, 4096]⟩
abbrev S999x4096x1 : Shape := ⟨3, ![999, 4096, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S9976, .i32⟩
  | .hbm, ⟨2, _⟩ => ⟨S9976, .i32⟩
  | .hbm, ⟨3, _⟩ => ⟨S1998, .f32⟩
  | .hbm, ⟨4, _⟩ => ⟨S1000x4096, .f32⟩
  | .hbm, ⟨5, _⟩ => ⟨S_, .i32⟩
  | .hbm, ⟨6, _⟩ => ⟨S9976, .i32⟩
  | .hbm, ⟨7, _⟩ => ⟨S9976, .i1⟩
  | .hbm, ⟨8, _⟩ => ⟨S_, .i32⟩
  | .hbm, ⟨9, _⟩ => ⟨S9976, .i32⟩
  | .hbm, ⟨10, _⟩ => ⟨S9976, .i32⟩
  | .hbm, ⟨11, _⟩ => ⟨S9976, .i32⟩
  | .hbm, ⟨12, _⟩ => ⟨S9976x1, .i32⟩
  | .hbm, ⟨13, _⟩ => ⟨S9976x4096, .f32⟩
  | .hbm, ⟨14, _⟩ => ⟨S_, .f32⟩
  | .hbm, ⟨15, _⟩ => ⟨S1998x4096, .f32⟩
  | .hbm, ⟨16, _⟩ => ⟨S9976x1, .i32⟩
  | .hbm, ⟨17, _⟩ => ⟨S1998x4096, .f32⟩
  | .hbm, ⟨18, _⟩ => ⟨S1998x1, .f32⟩
  | .hbm, ⟨19, _⟩ => ⟨S1998x4096, .f32⟩
  | .hbm, ⟨20, _⟩ => ⟨S1998x4096, .f32⟩
  | .hbm, ⟨21, _⟩ => ⟨S999x2x4096, .f32⟩
  | .hbm, ⟨22, _⟩ => ⟨S999x4096x2, .f32⟩
  | .hbm, ⟨23, _⟩ => ⟨S_, .f32⟩
  | .hbm, ⟨24, _⟩ => ⟨S999x4096, .f32⟩
  | .hbm, ⟨25, _⟩ => ⟨S_, .f32⟩
  | .hbm, ⟨26, _⟩ => ⟨S999x4096, .f32⟩
  | .hbm, ⟨27, _⟩ => ⟨S999x4096, .f32⟩
  | .hbm, ⟨28, _⟩ => ⟨S999x4096x1, .f32⟩
  | .hbm, ⟨29, _⟩ => ⟨S999x4096x2, .f32⟩
  | .hbm, ⟨30, _⟩ => ⟨S999x4096x2, .f32⟩
  | .hbm, ⟨31, _⟩ => ⟨S999x4096x2, .f32⟩
  | .hbm, ⟨32, _⟩ => ⟨S_, .f32⟩
  | .hbm, ⟨33, _⟩ => ⟨S999x4096, .f32⟩
  | .hbm, ⟨34, _⟩ => ⟨S999x4096x1, .f32⟩
  | .hbm, ⟨35, _⟩ => ⟨S999x4096x2, .f32⟩
  | .hbm, ⟨36, _⟩ => ⟨S999x4096x2, .f32⟩
  | .hbm, ⟨37, _⟩ => ⟨S999x4096x2, .i32⟩
  | .hbm, ⟨38, _⟩ => ⟨S_, .f32⟩
  | .hbm, ⟨39, _⟩ => ⟨S_, .i32⟩
  | .hbm, ⟨40, _⟩ => ⟨S999x4096, .f32⟩
  | .hbm, ⟨41, _⟩ => ⟨S999x4096, .i32⟩
  | .hbm, ⟨42, _⟩ => ⟨S999x4096x2, .f32⟩
  | .hbm, ⟨43, _⟩ => ⟨S999x4096x2, .f32⟩
  | .hbm, ⟨44, _⟩ => ⟨S_, .f32⟩
  | .hbm, ⟨45, _⟩ => ⟨S999x4096, .f32⟩
  | .hbm, ⟨46, _⟩ => ⟨S999x4096, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_cst : Ref sig .tc := ⟨.hbm, 38, rfl⟩
abbrev main_call0_c : Ref sig .tc := ⟨.hbm, 39, rfl⟩
abbrev main_call0_v1_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.KernelFrame.lean ====
/-
  The frame of the kernel as printed: every run terminates, the arguments end unchanged, every counter ends at zero.

  No window's array is an argument (each is a value the host computes first), so nothing has to be said of what the
  windows' buffers hold: all twelve are forgotten, the body is run once on buffers of any contents, and the arguments are
  read off the part of the memory that no window, and no host operation after the region, writes.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.Claim

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole at some contents is a staging buffer of some contents. -/
theorem some_contents {s : Shape} {e : EltTy} (c : Dev nD) (a : Memref sig .tc .vmem s e) (f : Buf (Elt F) (a.view.loc (c : Thread nD τ))) :
    (a.view.loc (c : Thread nD τ) ↦[a.view.set]{fullShare} f : sProp 𝕄)
      ⊢ iprop(∃ d f, ⌜a.view.read (Elt F) f = d⌝ ∗ a.view.loc (c : Thread nD τ) ↦[a.view.set]{fullShare} f) := by
  iintro H
  iexists _; iexists f; isplitr
  · ipureintro; rfl
  iexact H

/-- The body on whole staging buffers of any contents runs to its end and leaves whole staging buffers. -/
theorem body_runs (c : Dev nD) (E : Set ℕ) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S512x1 .f32) (harg7 : arg7.IsWhole) (arg8 : Memref sig .tc .vmem S1000x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .i32) (harg12 : arg12.IsWhole) (arg13 : Memref sig .tc .vmem S512x1024 .f32) (harg13 : arg13.IsWhole)
    (K : PUnit → sProp 𝕄) :
    iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop((∃ d, owns (c : Thread nD τ) arg2 fullShare d)
        ∗ (∃ d, owns (c : Thread nD τ) arg3 fullShare d)
        ∗ (∃ d, owns (c : Thread nD τ) arg4 fullShare d)
        ∗ (∃ d, owns (c : Thread nD τ) arg5 fullShare d)
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)) -∗ K ⟨⟩))
      ⊢ wp frame (wpE (defs₀ (F := F)) Variants.none c none) E (cc0__tile_kernel i arg2 harg2 arg3 harg3 arg4 harg4 arg5 harg5 arg6 harg6 arg7 harg7 arg8 harg8 arg9 harg9 arg10 harg10 arg11 harg11 arg12 harg12 arg13 harg13) K := by
  rw [cc0__tile_kernel_eq_skeleton]; unfold cc0__tile_kernel_skel
  simp only [k0_part1_eq_skeleton]; unfold k0_part1_skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  sl_exec
  sl_step
  iapply Hk
  isplitl [H2]; · iapply (some_contents c arg2 _); iexact H2
  isplitl [H3]; · iapply (some_contents c arg3 _); iexact H3
  isplitl [H4]; · iapply (some_contents c arg4 _); iexact H4
  isplitl [H5]; · iapply (some_contents c arg5 _); iexact H5
  isplitl [H6]; · iapply (some_contents c arg6 _); iexact H6
  isplitl [H7]; · iapply (some_contents c arg7 _); iexact H7
  isplitl [H8]; · iapply (some_contents c arg8 _); iexact H8
  isplitl [H9]; · iapply (some_contents c arg9 _); iexact H9
  isplitl [H10]; · iapply (some_contents c arg10 _); iexact H10
  isplitl [H11]; · iapply (some_contents c arg11 _); iexact H11
  isplitl [H12]; · iapply (some_contents c arg12 _); iexact H12
  iapply (some_contents c arg13 _); iexact H13

/-! ## The proof data: every window forgotten -/

/-- The proof data: the arrays as the region finds them, the staging buffers unnamed, the class's invariant, nothing owed. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Its arrays are the contents the region is entered at. -/
theorem A_eq (c : Dev nD) (w : Fin cfg0.W) : (dats m 0 c).A w = V m c (Pipeline.arrRef spec0 w) := by
  dsimp only [dats]

/-- Every window is forgotten. -/
abbrev forgotten : Fin cfg0.W → Bool := fun _ => true

/-- The body table's row at a point's buffers is the body at that point. -/
theorem defs₀_row (t : Fin cfg0.N) :
    defs₀ (F := F) .tc cfg0.body (cfg0.bodyArgs t (cfg0.slots t)) = bodyAt0 t := by
  unfold defs₀; rw [Defs.onTc_tc]

/-- The body's obligation at every point: whole buffers in, whole buffers out. -/
theorem body_obligation (c : Dev nD) :
    BodyObligationLoose (dats (F := F) m 0 c) (defs₀ (F := F)) Variants.none () Set.univ forgotten := fun t => by
  rw [bigSep_W0, defs₀_row, show (dats m 0 c).Φ t.succ = (dats m 0 c).Φ t.castSucc from rfl,
    show (dats m 0 c).owesAt () t.succ = (dats m 0 c).owesAt () t.castSucc from rfl]
  iintro ⟨HΦ, Ho, H0, H1, H2, H3, H4, H5, H6, H7, H8, H9, H10, H11⟩
  iapply (body_runs c Set.univ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro H
  isplitl [HΦ]; · iexact HΦ
  isplitl [Ho]; · iexact Ho
  iexact H

/-! ## The run -/

/-- The buffers the host operations after the region write. -/
def written : Finset (Ref sig .tc) :=
  {main_v27, main_v28, main_v29, main_cst, main_v30, main_v31, main_v32, main_v33, main_v34}

/-- Every host operation after the region writes into `written`. -/
theorem writes_written : ∀ ops ∈ ([hostOps1] : List (List (HloOp τ sig (Elt F)))), ∀ op ∈ ops, ∀ b : Ref sig .tc,
    Proc.devRef .tc b ∈ op.writes → b ∈ written := by
  intro ops hops op hop b hb
  simp only [List.mem_cons, List.mem_nil_iff, or_false] at hops
  subst hops
  simp only [hostOps1, List.mem_cons, List.mem_nil_iff, or_false] at hop
  rcases hop with rfl | rfl | rfl | rfl | rfl | rfl | rfl | rfl | rfl
  all_goals
    simp only [StableHlo.nullary_writes, StableHlo.unary_writes, StableHlo.binary_writes, StableHlo.ternary_writes, StableHlo.quaternary_writes, StableHlo.reshape_writes, Finset.mem_singleton] at hb
    rw [show b = _ from Proc.devRef_injective _ hb]
    decide

set_option backward.isDefEq.respectTransparency.types false in
/-- Every run of the kernel terminates, the four arguments as launched and every counter at zero. -/
theorem run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget cfgs (dats m) 0 launch0 defs₀ Variants.none forgotten written m ρ main
    (fun c => body_obligation m c) (fun c => (dats m 0 c).share_full fun _ => rfl) (fun _ _ => rfl) (V0 m) [hostOps1]
    sfx_sub sfx_fresh sfx_keeps writes_written (hmain m Variants.none) (A_eq m) (fun _ _ => rfl) _
    fun r h => ⟨fun c =>
      ⟨((h.1 c).2 main_arg0 (by decide)).trans (V_main_arg0 m c), ((h.1 c).2 main_arg1 (by decide)).trans (V_main_arg1 m c),
        ((h.1 c).2 main_arg2 (by decide)).trans (V_main_arg2 m c), ((h.1 c).2 main_arg3 (by decide)).trans (V_main_arg3 m c)⟩, h.2⟩

end Cert.Proof.KernelFrame

end
-- ==== Proof.Body.lean ====
/-
  One run of the kernel's body: what its five stores leave, as functions of what its seven inputs hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import Idealize.ShloMosaic.Lib.Pipeline.Value

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole at some contents is a staging buffer of what those contents read. -/
theorem unchanged {s : Shape} {e : EltTy} (c : Dev nD) (a : Memref sig .tc .vmem s e) (f : Buf (Elt F) (a.view.loc (c : Thread nD τ))) :
    (a.view.loc (c : Thread nD τ) ↦[a.view.set]{fullShare} f : sProp 𝕄)
      ⊢ iprop(∃ g, ⌜a.view.read (Elt F) g = a.view.read (Elt F) f⌝ ∗ a.view.loc (c : Thread nD τ) ↦[a.view.set]{fullShare} g) := by
  iintro H
  iexists f; isplitr
  · ipureintro; rfl
  iexact H

/-- Both offsets of a whole buffer are zero. -/
theorem zero2 : ∀ x : Fin 2, (![0, 0] : Fin 2 → ℕ) x = 0 := by decide

/-- A load of a whole buffer reads what the buffer holds. -/
theorem loaded {s : Shape} {e : EltTy} (a : Memref sig .tc .vmem s e) {off : Fin s.rank → ℕ} (inb : ∀ x, off x + s.size x ≤ s.size x)
    (h : ∀ x, off x = 0) (f : a.view.ty.Contents (Elt F)) :
    a.view.readAt (Elt F) (Rect.unit off s.size inb).toLoadRect f = a.view.read (Elt F) f :=
  (View.readAt_eq_ld a.view f _).trans (View.ld_unit_zero (funext h) inb _)

/-- A store to a whole buffer leaves its payload. -/
theorem stored {s : Shape} {e : EltTy} (c : Dev nD) (a : Memref sig .tc .vmem s e) {off : Fin s.rank → ℕ}
    (inb : ∀ x, off x + s.size x ≤ s.size x) (h : ∀ x, off x = 0) (f : a.view.ty.Contents (Elt F)) (w w' : s.Idx → Elt F e) (hw : w = w') :
    (a.view.loc (c : Thread nD τ) ↦[a.view.set]{fullShare} (a.view.writes (Elt F) f [⟨Rect.unit off s.size inb, w⟩]) : sProp 𝕄)
      ⊢ iprop(∃ g, ⌜a.view.read (Elt F) g = w'⌝ ∗ a.view.loc (c : Thread nD τ) ↦[a.view.set]{fullShare} g) := by
  iintro H
  iexists _; isplitr; swap; · iexact H
  ipureintro
  rw [View.read_writes_eq_canon a.view f [⟨Rect.unit off s.size inb, w⟩]
    (fun y => ⟨_, List.mem_singleton_self _, (Rect.mem_set_unit (inb := inb)).mpr fun x =>
      ⟨by rw [h x]; exact Nat.zero_le _, by rw [h x, Nat.zero_add]; exact (y x).isLt⟩⟩), View.canon_cons_unit_zero (funext h) inb w [], hw]

/-- The body on whole staging buffers: the seven inputs stay as they are, and the five outputs end holding the two
    mean blocks, the first probability, the choice and the entropy computed from the inputs' contents. -/
theorem body_leaves (c : Dev nD) (E : Set ℕ) (i : grid0.Coords) (arg2 : Memref sig .tc .vmem S512x1 .i32) (harg2 : arg2.IsWhole) (arg3 : Memref sig .tc .vmem S512x1 .i32) (harg3 : arg3.IsWhole) (arg4 : Memref sig .tc .vmem S512x1 .f32) (harg4 : arg4.IsWhole) (arg5 : Memref sig .tc .vmem S512x1 .i32) (harg5 : arg5.IsWhole) (arg6 : Memref sig .tc .vmem S512x1 .i32) (harg6 : arg6.IsWhole) (arg7 : Memref sig .tc .vmem S512x1 .f32) (harg7 : arg7.IsWhole) (arg8 : Memref sig .tc .vmem S1000x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .i32) (harg12 : arg12.IsWhole) (arg13 : Memref sig .tc .vmem S512x1024 .f32) (harg13 : arg13.IsWhole)
    (d2 : S512x1.Idx → Elt F .i32) (d3 : S512x1.Idx → Elt F .i32) (d4 : S512x1.Idx → Elt F .f32) (d5 : S512x1.Idx → Elt F .i32) (d6 : S512x1.Idx → Elt F .i32) (d7 : S512x1.Idx → Elt F .f32) (d8 : S1000x1024.Idx → Elt F .f32)
    (K : PUnit → sProp 𝕄) :
    iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare (k0_pay9 d2 d3 d8 d4)
        ∗ owns (c : Thread nD τ) arg10 fullShare (k0_pay1 (k0_pay10 d5 d6 d8) d7)
        ∗ owns (c : Thread nD τ) arg11 fullShare (k0_pay3 (k0_pay9 d2 d3 d8 d4) (k0_pay10 d5 d6 d8) d7)
        ∗ owns (c : Thread nD τ) arg12 fullShare (k0_pay4 (k0_pay9 d2 d3 d8 d4) (k0_pay10 d5 d6 d8) d7)
        ∗ owns (c : Thread nD τ) arg13 fullShare (k0_pay5 (k0_pay9 d2 d3 d8 d4) (k0_pay10 d5 d6 d8) d7)) -∗ K ⟨⟩))
      ⊢ wp frame (wpE (defs₀ (F := F)) Variants.none c none) E (cc0__tile_kernel i arg2 harg2 arg3 harg3 arg4 harg4 arg5 harg5 arg6 harg6 arg7 harg7 arg8 harg8 arg9 harg9 arg10 harg10 arg11 harg11 arg12 harg12 arg13 harg13) K := by
  rw [cc0__tile_kernel_eq_skeleton]; unfold cc0__tile_kernel_skel
  simp only [k0_part1_eq_skeleton]; unfold k0_part1_skel
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, Hk⟩
  subst h2 h3 h4 h5 h6 h7 h8
  sl_exec
  sl_step
  simp only [loaded arg2 _ zero2, loaded arg3 _ zero2, loaded arg4 _ zero2, loaded arg5 _ zero2, loaded arg6 _ zero2, loaded arg7 _ zero2, loaded arg8 _ zero2]
  iapply Hk
  isplitl [H2]; · iapply (unchanged c arg2 _); iexact H2
  isplitl [H3]; · iapply (unchanged c arg3 _); iexact H3
  isplitl [H4]; · iapply (unchanged c arg4 _); iexact H4
  isplitl [H5]; · iapply (unchanged c arg5 _); iexact H5
  isplitl [H6]; · iapply (unchanged c arg6 _); iexact H6
  isplitl [H7]; · iapply (unchanged c arg7 _); iexact H7
  isplitl [H8]; · iapply (unchanged c arg8 _); iexact H8
  isplitl [H9]; · iapply (stored c arg9 inb_S512x1024_S512x1024_0_0 zero2 _ _ _ rfl); iexact H9
  isplitl [H10]; · iapply (stored c arg10 inb_S512x1024_S512x1024_0_0 zero2 _ _ _ rfl); iexact H10
  isplitl [H11]; · iapply (stored c arg11 inb_S512x1024_S512x1024_0_0 zero2 _ _ _ rfl); iexact H11
  isplitl [H12]; · iapply (stored c arg12 inb_S512x1024_S512x1024_0_0 zero2 _ _ _ rfl); iexact H12
  iapply (stored c arg13 inb_S512x1024_S512x1024_0_0 zero2 _ _ _ rfl); iexact H13

end Cert.Proof.Body

end
-- ==== Proof.Block.lean ====
/-
  One block of the kernel over the extended reals, read at one row and one column.

  Row `r` of a block depends on the row's own start, end and count only, and column `b` on the column's own 1000 inputs only:
  whatever stands in the rows past the array's end, the rows inside it get the values stated here.
-/
module

public import proofs.«01_k».proof.Proof.Gen.KernelIdeal
public import proofs.«01_k».proof.Proof.Gen.KernelIdeal.Skeleton
public import Idealize.ShloMosaic.PureOps.Ideal
public import Idealize.ShloMosaic.PureOps.Ideal.Laws
public import Idealize.ShloMosaic.Lib.ValueIdx
public import Idealize.ShloMosaic.Lib.WordCmp
public import Idealize.ShloMosaic.Lib.Pipeline.Value
public import Idealize.ShloMosaic.Lib.Pointwise

@[expose] public section

set_option maxRecDepth 16384

noncomputable section

namespace Cert.Proof.Block

open Cert.KernelIdeal Cert.KernelIdeal.Gen
open Idealize.ShloMosaic
open Idealize.ShloMosaic.ValueIdx hiding ix0 ix1 ix2 ix3

/-- The mask's entry for class `j` of a row that starts at `s` and ends before `e`. -/
def inside (s e : BitVec 32) (j : Fin 1000) : EReal := if s.toInt ≤ (j.val : ℤ) ∧ (j.val : ℤ) < e.toInt then 1 else 0

/-- A row's sum of one column: the product of the mask with the column's leading part, plus that with its remainder. -/
def total (s e : BitVec 32) (X : Fin 1000 → EReal) : EReal :=
  ∑ j, inside s e j * X j + ∑ j, inside s e j * (X j - X j)

/-- The logit: the sum over the count. -/
def mean (s e : BitVec 32) (k : EReal) (X : Fin 1000 → EReal) : EReal := Ideal.div (total s e X) k

/-- The probability of the first child, from the two logits. -/
def first (l0 l1 : EReal) : EReal := Ideal.logistic (0 - (l1 - l0))

/-- The chosen child: 1 where the second logit is larger. -/
def choice (l0 l1 : EReal) : BitVec 32 := if 0 < l1 - l0 then 1#32 else 0#32

/-- The entropy of the two probabilities. -/
def surprise (l0 l1 : EReal) : EReal :=
  0 - (first l0 l1 * Ideal.log (first l0 l1) + Ideal.logistic (l1 - l0) * Ideal.log (Ideal.logistic (l1 - l0)))

/-- The mask's entry as the kernel computes it from words: both comparisons' bits joined, widened and converted. -/
theorem inside_word (s e : BitVec 32) (j : Fin 1000) :
    (FloatOps.sitofp (F := Ideal) .f32 (BitVec.setWidth 32 (IntOp.andi (IntOp.cmpi .sge (BitVec.ofNat 32 j.val) s)
      (IntOp.cmpi .slt (BitVec.ofNat 32 j.val) e))) : EReal) = inside s e j := by
  have hj : (BitVec.ofNat 32 j.val).toInt = (j.val : ℤ) := WordCmp.toInt_ofNat_of_lt (by have := j.isLt; omega)
  unfold inside
  by_cases h : s.toInt ≤ (j.val : ℤ) ∧ (j.val : ℤ) < e.toInt
  · rw [if_pos h, show IntOp.andi (IntOp.cmpi .sge (BitVec.ofNat 32 j.val) s) (IntOp.cmpi .slt (BitVec.ofNat 32 j.val) e) = 1#1 from
      IntOp.andi_eq_one.mpr ⟨IntOp.cmpi_sge.mpr (by rw [hj]; exact h.1), IntOp.cmpi_slt.mpr (by rw [hj]; exact h.2)⟩]
    show (((BitVec.setWidth 32 1#1).toInt : ℝ) : EReal) = 1
    norm_num
  · have h0 : IntOp.andi (IntOp.cmpi .sge (BitVec.ofNat 32 j.val) s) (IntOp.cmpi .slt (BitVec.ofNat 32 j.val) e) = 0#1 := by
      refine (by decide : ∀ b : BitVec 1, b ≠ 1#1 → b = 0#1) _ fun hb => h ?_
      have := IntOp.andi_eq_one.mp hb
      have h1 := IntOp.cmpi_sge.mp this.1
      have h2 := IntOp.cmpi_slt.mp this.2
      rw [hj] at h1 h2
      exact ⟨h1, h2⟩
    rw [if_neg h, h0]
    show (((BitVec.setWidth 32 0#1).toInt : ℝ) : EReal) = 0
    norm_num

/-- The first logit's block at a row and a column. -/
theorem logit0_at (s e : IVec S512x1 32) (X : FVec Ideal S1000x1024 .f32) (k : FVec Ideal S512x1 .f32) (r : Fin 512) (b : Fin 1024) :
    k0_pay9 (F := Ideal) s e X k (ix2 r b) = mean (s (ix2 r 0)) (e (ix2 r 0)) (k (ix2 r 0)) (fun j => X (ix2 j b)) := by
  pointwise [k0_pay9, k0_pay8, k0_pay7, k0_pay6]
  simp only [inside_word]
  rfl

/-- The second sum's block at a row and a column. -/
theorem total1_at (s e : IVec S512x1 32) (X : FVec Ideal S1000x1024 .f32) (r : Fin 512) (b : Fin 1024) :
    k0_pay10 (F := Ideal) s e X (ix2 r b) = total (s (ix2 r 0)) (e (ix2 r 0)) (fun j => X (ix2 j b)) := by
  pointwise [k0_pay10, k0_pay8, k0_pay7, k0_pay6]
  simp only [inside_word]
  rfl

/-- The second logit's block at a row and a column. -/
theorem logit1_at (s e : IVec S512x1 32) (X : FVec Ideal S1000x1024 .f32) (k : FVec Ideal S512x1 .f32) (r : Fin 512) (b : Fin 1024) :
    k0_pay1 (F := Ideal) (k0_pay10 s e X) k (ix2 r b) = mean (s (ix2 r 0)) (e (ix2 r 0)) (k (ix2 r 0)) (fun j => X (ix2 j b)) := by
  pointwise [k0_pay1]
  rw [total1_at]
  rfl

/-- The first probability's block, from the two logits' entries. -/
theorem first_at (A T : FVec Ideal S512x1024 .f32) (k : FVec Ideal S512x1 .f32) (j : S512x1024.Idx) :
    k0_pay3 (F := Ideal) A T k j = first (A j) (k0_pay1 (F := Ideal) T k j) := by
  pointwise [k0_pay3, k0_pay2]
  rfl

/-- The choice's block, from the two logits' entries. -/
theorem choice_at (A T : FVec Ideal S512x1024 .f32) (k : FVec Ideal S512x1 .f32) (j : S512x1024.Idx) :
    k0_pay4 (F := Ideal) A T k j = choice (A j) (k0_pay1 (F := Ideal) T k j) := by
  pointwise [k0_pay4, k0_pay2]
  unfold choice
  by_cases h : 0 < k0_pay1 (F := Ideal) T k j - A j
  · rw [if_pos h, decide_eq_true h]; rfl
  · rw [if_neg h, decide_eq_false h]; rfl

/-- The entropy's block, from the two logits' entries. -/
theorem surprise_at (A T : FVec Ideal S512x1024 .f32) (k : FVec Ideal S512x1 .f32) (j : S512x1024.Idx) :
    k0_pay5 (F := Ideal) A T k j = surprise (A j) (k0_pay1 (F := Ideal) T k j) := by
  pointwise [k0_pay5, k0_pay3, k0_pay2]
  rfl

end Cert.Proof.Block

end
-- ==== Proof.Windows.lean ====
/-
  The arrays the kernel leaves, and the proof that every block it writes is those arrays' block.

  The rows of the arrays are 999 and a block has 512, so the second block of rows overhangs. A row inside the array is read
  off its own row of the six one-column inputs, so nothing that stands past the array's end reaches it.
-/
module

public import proofs.«01_k».proof.Proof.Body
public import proofs.«01_k».proof.Proof.Block
public import Idealize.ShloMosaic.Lib.Pipeline.ValueKit

@[expose] public section

set_option maxRecDepth 16384

noncomputable section

namespace Cert.Proof.Windows

open Cert.KernelIdeal Cert.KernelIdeal.Gen Cert.Proof.Block
open Idealize.ShloMosaic Idealize.ShloMosaic.TcCoe Idealize.ShloMosaic.Tactic
open Idealize.ShloMosaic.Pipeline (Dat Cfg Window)

/-- The logits of all rows and columns: row `i 0` has its start, end and count, column `i 1` its 1000 inputs. -/
def logits (s e : S999x1.Idx → BitVec 32) (k : S999x1.Idx → EReal) (X : S1000x4096.Idx → EReal) : S999x4096.Idx → EReal :=
  fun i => mean (s (ix2 (i 0) 0)) (e (ix2 (i 0) 0)) (k (ix2 (i 0) 0)) (fun j => X (ix2 j (i 1)))

variable (m : (ℓ : Loc nD τ sig) → Buf (Elt Ideal) ℓ)

/-- The first logits, from the arrays the region finds. -/
def R0 (c : Dev nD) : S999x4096.Idx → EReal := logits (V m c main_v14) (V m c main_v16) (V m c main_v22) (V m c main_v25)
/-- The second logits. -/
def R1 (c : Dev nD) : S999x4096.Idx → EReal := logits (V m c main_v18) (V m c main_v20) (V m c main_v24) (V m c main_v25)
/-- The first probabilities. -/
def R2 (c : Dev nD) : S999x4096.Idx → EReal := fun i => first (R0 m c i) (R1 m c i)
/-- The choices. -/
def R3 (c : Dev nD) : S999x4096.Idx → BitVec 32 := fun i => choice (R0 m c i) (R1 m c i)
/-- The entropies. -/
def R4 (c : Dev nD) : S999x4096.Idx → EReal := fun i => surprise (R0 m c i) (R1 m c i)

/-- A fetched block at an index the transfer moves is the array where the block places the index. -/
theorem fetched_at {α : Type} (w : Window sig grid0) (t : Fin grid0.N) (d : w.block.Idx → α)
    (g : (w.xblock (grid0.coords t)).Idx → α) (j : w.block.Idx) (h : ∀ a, (j a).val < w.xsize (grid0.coords t) a) :
    w.fill (grid0.coords t) d g j = g (fun a => ⟨(j a).val, h a⟩) := by
  unfold Window.fill
  rw [dif_pos ((w.moved_iff _ j).mpr h)]

/-- The row, inside its block, of an index of an output block. -/
def rowOf (t : Fin cfg0.N) (y : (win0_7.xblock (grid0.coords t)).Idx) : Fin 512 := win0_7.xinj (grid0.coords t) y 0
/-- Its column. -/
def colOf (t : Fin cfg0.N) (y : (win0_7.xblock (grid0.coords t)).Idx) : Fin 1024 := win0_7.xinj (grid0.coords t) y 1

/-- A fetched one-column block, at a row the output's transfer moves, is the array at that row. All six one-column windows
    cut and place their blocks alike, so this one fact serves them all. -/
theorem row_at {α : Type} (A : S999x1.Idx → α) (t : Fin cfg0.N) (d : S512x1.Idx → α) (y : (win0_7.xblock (grid0.coords t)).Idx) :
    win0_0.fill (grid0.coords t) d (fun z => A ((win0_0.blk t).view.emb z)) (ix2 (rowOf t y) 0)
      = A (ix2 ((win0_7.blk t).view.emb y 0) 0) := by
  rw [fetched_at win0_0 t d (fun z => A ((win0_0.blk t).view.emb z)) _ (fun a => by
    match a with
    | ⟨0, _⟩ => exact (y 0).isLt
    | ⟨1, _⟩ => exact Nat.one_pos)]
  refine congrArg A (funext fun a => Fin.ext ?_)
  match a with
  | ⟨0, _⟩ => rfl
  | ⟨1, _⟩ => rfl

/-- The fetched block of columns at a column the output's transfer moves is the array at that column. -/
theorem column_at (c : Dev nD) (t : Fin cfg0.N) (y : (win0_7.xblock (grid0.coords t)).Idx) (j : Fin 1000) :
    iblk m c 6 t (ix2 j (colOf t y)) = V m c main_v25 (ix2 j ((win0_7.blk t).view.emb y 1)) := by
  refine congrArg (V m c main_v25) (funext fun a => Fin.ext ?_)
  match a with
  | ⟨0, _⟩ => blk_simp; show 0 * 1000 + j.val = j.val; omega
  | ⟨1, _⟩ => rfl

/-- An index of an output block by its two coordinates. -/
theorem index_eq (t : Fin cfg0.N) (y : (win0_7.xblock (grid0.coords t)).Idx) :
    (win0_7.xinj (grid0.coords t) y : S512x1024.Idx) = ix2 (rowOf t y) (colOf t y) := by
  refine funext fun a => ?_
  match a with
  | ⟨0, _⟩ => rfl
  | ⟨1, _⟩ => rfl

/-- What the six one-column buffers and the block of columns hold at point `t`: the fetched blocks, and anything (`d`) in the
    rows past the array's end. -/
abbrev F0 (c : Dev nD) (t : Fin cfg0.N) (d : S512x1.Idx → BitVec 32) : S512x1.Idx → BitVec 32 := win0_0.fill (grid0.coords t) d (iblk m c 0 t)
abbrev F1 (c : Dev nD) (t : Fin cfg0.N) (d : S512x1.Idx → BitVec 32) : S512x1.Idx → BitVec 32 := win0_1.fill (grid0.coords t) d (iblk m c 1 t)
abbrev F2 (c : Dev nD) (t : Fin cfg0.N) (d : S512x1.Idx → EReal) : S512x1.Idx → EReal := win0_2.fill (grid0.coords t) d (iblk m c 2 t)
abbrev F3 (c : Dev nD) (t : Fin cfg0.N) (d : S512x1.Idx → BitVec 32) : S512x1.Idx → BitVec 32 := win0_3.fill (grid0.coords t) d (iblk m c 3 t)
abbrev F4 (c : Dev nD) (t : Fin cfg0.N) (d : S512x1.Idx → BitVec 32) : S512x1.Idx → BitVec 32 := win0_4.fill (grid0.coords t) d (iblk m c 4 t)
abbrev F5 (c : Dev nD) (t : Fin cfg0.N) (d : S512x1.Idx → EReal) : S512x1.Idx → EReal := win0_5.fill (grid0.coords t) d (iblk m c 5 t)

/-- The first logits' block, on the part inside the array, is the array's block. -/
theorem block0 (c : Dev nD) (t : Fin cfg0.N) (d0 d1 : S512x1.Idx → BitVec 32) (d2 : S512x1.Idx → EReal) (y : (win0_7.xblock (grid0.coords t)).Idx) :
    k0_pay9 (F := Ideal) (F0 m c t d0) (F1 m c t d1) (iblk m c 6 t) (F2 m c t d2) (win0_7.xinj (grid0.coords t) y) = R0 m c ((win0_7.blk t).view.emb y) := by
  rw [index_eq, logit0_at]
  have e0 := row_at (V m c main_v14) t d0 y
  have e1 := row_at (V m c main_v16) t d1 y
  have e2 := row_at (V m c main_v22) t d2 y
  have e6 := column_at m c t y
  exact congr (congr (congr (congrArg mean e0) e1) e2) (funext e6)

/-- The second logits' block likewise. -/
theorem block1 (c : Dev nD) (t : Fin cfg0.N) (d3 d4 : S512x1.Idx → BitVec 32) (d5 : S512x1.Idx → EReal) (y : (win0_7.xblock (grid0.coords t)).Idx) :
    k0_pay1 (F := Ideal) (k0_pay10 (F3 m c t d3) (F4 m c t d4) (iblk m c 6 t)) (F5 m c t d5) (win0_7.xinj (grid0.coords t) y) = R1 m c ((win0_7.blk t).view.emb y) := by
  rw [index_eq, logit1_at]
  have e0 := row_at (V m c main_v18) t d3 y
  have e1 := row_at (V m c main_v20) t d4 y
  have e2 := row_at (V m c main_v24) t d5 y
  have e6 := column_at m c t y
  exact congr (congr (congr (congrArg mean e0) e1) e2) (funext e6)

end Cert.Proof.Windows

end
-- ==== Proof.Run.lean ====
/-
  The run of the kernel over the extended reals: what its five arrays hold at the end.
-/
module

public import proofs.«01_k».proof.Proof.Windows
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import Idealize.ShloMosaic.Lib.Pipeline.Value

@[expose] public section

set_option maxRecDepth 16384

noncomputable section

namespace Cert.Proof.Run

open Cert.KernelIdeal Cert.KernelIdeal.Gen Cert.Proof.Block Cert.Proof.Windows Cert.Proof.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data: the arrays as the region finds them; after the body at point `t` the input buffers at their blocks and
    the output buffers at the result arrays' blocks (past the array's end a filler, of which nothing is claimed). -/
def dats (_ : Fin 1) (c : Dev nD) : Dat τ (Elt Ideal) Unit ℕ (UR sig nD τ) ℕ cfg0 c where
  A w := V m c (Pipeline.arrRef spec0 w)
  after w t := match w with
    | ⟨0, _⟩ => F0 m c t (fun _ => 0#32)
    | ⟨1, _⟩ => F1 m c t (fun _ => 0#32)
    | ⟨2, _⟩ => F2 m c t (fun _ => (0 : EReal))
    | ⟨3, _⟩ => F3 m c t (fun _ => 0#32)
    | ⟨4, _⟩ => F4 m c t (fun _ => 0#32)
    | ⟨5, _⟩ => F5 m c t (fun _ => (0 : EReal))
    | ⟨6, _⟩ => iblk m c 6 t
    | ⟨7, _⟩ => win0_7.fill (grid0.coords t) (fun _ => (0 : EReal)) (fun y => R0 m c ((win0_7.blk t).view.emb y))
    | ⟨8, _⟩ => win0_8.fill (grid0.coords t) (fun _ => (0 : EReal)) (fun y => R1 m c ((win0_8.blk t).view.emb y))
    | ⟨9, _⟩ => win0_9.fill (grid0.coords t) (fun _ => (0 : EReal)) (fun y => R2 m c ((win0_9.blk t).view.emb y))
    | ⟨10, _⟩ => win0_10.fill (grid0.coords t) (fun _ => 0#32) (fun y => R3 m c ((win0_10.blk t).view.emb y))
    | ⟨11, _⟩ => win0_11.fill (grid0.coords t) (fun _ => (0 : EReal)) (fun y => R4 m c ((win0_11.blk t).view.emb y))
  Φ _ := Pipeline.ΦA spec0 c
  q _ := fullShare
  owed _ := 0

/-- Its arrays are the contents the region is entered at. -/
theorem A_eq (c : Dev nD) (w : Fin cfg0.W) : (dats m 0 c).A w = V m c (Pipeline.arrRef spec0 w) := by
  dsimp only [dats]

/-- What a window that is fetched at every point holds when the body starts: its block, and anything past the array's end. -/
theorem before_fetched (c : Dev nD) (w : Fin cfg0.W) (t : Fin cfg0.N) (h : (cfg0.win w).fetch t = true) (d) :
    (dats m 0 c).before w t d = (cfg0.win w).fill (grid0.coords t) d (iblk m c w t) := by
  unfold Dat.before; rw [if_pos h]; rfl

/-- The block of columns is in its buffer at every point, fetched there or not. -/
theorem before_columns (c : Dev nD) (t : Fin cfg0.N) (d) : (dats m 0 c).before 6 t d = iblk m c 6 t :=
  before0_6_of m (dats m 0 c) (A_eq m c 6) (fun _ => rfl) t d

/-- The body table's row at a point's buffers is the body at that point. -/
theorem defs₀_row (t : Fin cfg0.N) :
    defs₀ (F := Ideal) .tc cfg0.body (cfg0.bodyArgs t (cfg0.slots t)) = bodyAt0 t := by
  unfold defs₀; rw [Defs.onTc_tc]

/-- Contents that agree with `Y` on the part inside the array are `Y`'s part inside the array with something past it. -/
theorem agrees (c : Dev nD) (w : Window sig grid0) (s : Fin w.nbuf) (t : Fin cfg0.N) (X Y : w.block.Idx → Elt Ideal w.elt)
    (h : w.cut (grid0.coords t) X = w.cut (grid0.coords t) Y) :
    (owns (c : Thread nD τ) (w.stage s) fullShare X : sProp 𝕄)
      ⊢ iprop(∃ d, owns (c : Thread nD τ) (w.stage s) fullShare (w.fill (grid0.coords t) d (w.cut (grid0.coords t) Y))) := by
  iintro H
  iexists X
  rw [w.fill_congr_cut _ h]
  iexact H

/-- A fetched block agrees with itself inside the array, whatever stands past it. -/
theorem same (w : Window sig grid0) (t : Fin cfg0.N) {α : Type} (d d' : w.block.Idx → α) (g : (w.xblock (grid0.coords t)).Idx → α) :
    w.cut (grid0.coords t) (w.fill (grid0.coords t) d g) = w.cut (grid0.coords t) (w.fill (grid0.coords t) d' g) := by
  rw [w.cut_fill, w.cut_fill]

/-- The body's obligation at every point. -/
theorem body_obligation (c : Dev nD) :
    BodyObligationLoose (dats m 0 c) (defs₀ (F := Ideal)) Variants.none () Set.univ := fun t => by
  rw [bigSep_W0, bigSep_W0, defs₀_row, show (dats m 0 c).Φ t.succ = (dats m 0 c).Φ t.castSucc from rfl,
    show (dats m 0 c).owesAt () t.succ = (dats m 0 c).owesAt () t.castSucc from rfl]
  simp only
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_fetched m c 0 t (fetch0_0 t) d0, before_fetched m c 1 t (fetch0_1 t) d1, before_fetched m c 2 t (fetch0_2 t) d2,
    before_fetched m c 3 t (fetch0_3 t) d3, before_fetched m c 4 t (fetch0_4 t) d4, before_fetched m c 5 t (fetch0_5 t) d5,
    before_columns m c t d6]
  iapply (body_leaves (F := Ideal) c Set.univ _ _ _ _ _ _ _ _ _ _ _ _ _ _ _ _ _ _ _ _ _ _ _ _ _ (F0 m c t d0) (F1 m c t d1) (F2 m c t d2) (F3 m c t d3) (F4 m c t d4) (F5 m c t d5) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  have b7 := fun y => block0 m c t d0 d1 d2 y
  have b8 := fun y => block1 m c t d3 d4 d5 y
  have b9 := fun y => (first_at _ _ _ _).trans (congr (congrArg first (b7 y)) (b8 y))
  have b10 := fun y => (choice_at _ _ _ _).trans (congr (congrArg choice (b7 y)) (b8 y))
  have b11 := fun y => (surprise_at _ _ _ _).trans (congr (congrArg surprise (b7 y)) (b8 y))
  isplitl [H0]; · iapply (agrees c win0_0 _ t _ _ (same win0_0 t d0 _ (iblk m c 0 t))); iexact H0
  isplitl [H1]; · iapply (agrees c win0_1 _ t _ _ (same win0_1 t d1 _ (iblk m c 1 t))); iexact H1
  isplitl [H2]; · iapply (agrees c win0_2 _ t _ _ (same win0_2 t d2 _ (iblk m c 2 t))); iexact H2
  isplitl [H3]; · iapply (agrees c win0_3 _ t _ _ (same win0_3 t d3 _ (iblk m c 3 t))); iexact H3
  isplitl [H4]; · iapply (agrees c win0_4 _ t _ _ (same win0_4 t d4 _ (iblk m c 4 t))); iexact H4
  isplitl [H5]; · iapply (agrees c win0_5 _ t _ _ (same win0_5 t d5 _ (iblk m c 5 t))); iexact H5
  isplitl [H6]; · iexact H6
  isplitl [H7]; · iapply (agrees c win0_7 _ t _ _ ((funext b7).trans (win0_7.cut_fill (grid0.coords t) _ _).symm)); iexact H7
  isplitl [H8]; · iapply (agrees c win0_8 _ t _ _ ((funext b8).trans (win0_8.cut_fill (grid0.coords t) _ _).symm)); iexact H8
  isplitl [H9]; · iapply (agrees c win0_9 _ t _ _ ((funext b9).trans (win0_9.cut_fill (grid0.coords t) _ _).symm)); iexact H9
  isplitl [H10]; · iapply (agrees c win0_10 _ t _ _ ((funext b10).trans (win0_10.cut_fill (grid0.coords t) _ _).symm)); iexact H10
  iapply (agrees c win0_11 _ t _ _ ((funext b11).trans (win0_11.cut_fill (grid0.coords t) _ _).symm)); iexact H11
/-- The array of window 7 at the end. -/
theorem final7 (c : Dev nD) : (dats m 0 c).arrAt 7 cfg0.N = R0 m c := by
  refine (dats m 0 c).arrAt_eq_of_covers 7 (R0 m c) (by decide +kernel) fun t _ y => ?_
  exact congrFun (win0_7.cut_fill (grid0.coords t) (fun _ => (0 : EReal)) (fun y => R0 m c ((win0_7.blk t).view.emb y))) y

/-- The array of window 8 at the end. -/
theorem final8 (c : Dev nD) : (dats m 0 c).arrAt 8 cfg0.N = R1 m c := by
  refine (dats m 0 c).arrAt_eq_of_covers 8 (R1 m c) (by decide +kernel) fun t _ y => ?_
  exact congrFun (win0_8.cut_fill (grid0.coords t) (fun _ => (0 : EReal)) (fun y => R1 m c ((win0_8.blk t).view.emb y))) y

/-- The array of window 9 at the end. -/
theorem final9 (c : Dev nD) : (dats m 0 c).arrAt 9 cfg0.N = R2 m c := by
  refine (dats m 0 c).arrAt_eq_of_covers 9 (R2 m c) (by decide +kernel) fun t _ y => ?_
  exact congrFun (win0_9.cut_fill (grid0.coords t) (fun _ => (0 : EReal)) (fun y => R2 m c ((win0_9.blk t).view.emb y))) y

/-- The array of window 10 at the end. -/
theorem final10 (c : Dev nD) : (dats m 0 c).arrAt 10 cfg0.N = R3 m c := by
  refine (dats m 0 c).arrAt_eq_of_covers 10 (R3 m c) (by decide +kernel) fun t _ y => ?_
  exact congrFun (win0_10.cut_fill (grid0.coords t) (fun _ => 0#32) (fun y => R3 m c ((win0_10.blk t).view.emb y))) y

/-- The array of window 11 at the end. -/
theorem final11 (c : Dev nD) : (dats m 0 c).arrAt 11 cfg0.N = R4 m c := by
  refine (dats m 0 c).arrAt_eq_of_covers 11 (R4 m c) (by decide +kernel) fun t _ y => ?_
  exact congrFun (win0_11.cut_fill (grid0.coords t) (fun _ => (0 : EReal)) (fun y => R4 m c ((win0_11.blk t).view.emb y))) y

/-- Two arrays side by side on a new last axis. -/
def pair (A B : S999x4096.Idx → EReal) : S999x4096x2.Idx → EReal :=
  concatenate S999x4096x2 2 [⟨S999x4096x1, broadcastInDim S999x4096x1 ![0, 1] bcast_S999x4096_S999x4096x1_0_1 A⟩,
    ⟨S999x4096x1, broadcastInDim S999x4096x1 ![0, 1] bcast_S999x4096_S999x4096x1_0_1 B⟩] concatenates_S999x4096x1_S999x4096x1_S999x4096x2_d2

/-- One minus an array. -/
def rest (A : S999x4096.Idx → EReal) : S999x4096.Idx → EReal :=
  subf (F := Ideal) (φ := .f32) (broadcastInDim S999x4096 ![] bcast_S_S999x4096 (constant (F := Ideal) S_ .f32 0x3F800000#32)) A

/-- The memory as the operations after the region find it, at a window's array. -/
theorem entry (c : Dev nD) (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr spec0 (by decide) c (V0 m c) _ w

/-- The logits' result: both logits side by side. -/
theorem tail_logits (c : Dev nD) : Pipeline.afterTail₀ cfgs (dats m) 0 (V0 m) [hostOps1] c main_v29 = pair (R0 m c) (R1 m c) := by
  have e7 := (entry m c 7).trans (final7 m c)
  have e8 := (entry m c 8).trans (final8 m c)
  unfold Pipeline.afterTail₀
  generalize Pipeline.withArrays (cfgs 0).spec c (V0 m c) (fun w => (dats m 0 c).arrAt w (cfgs 0).N) = W at e7 e8 ⊢
  simp only [List.flatten_cons, List.flatten_nil, List.append_nil]
  after_results_simp
  exact congrArg₂ pair e7 e8

/-- The probabilities' result: the first probability and one minus it, side by side. -/
theorem tail_probs (c : Dev nD) : Pipeline.afterTail₀ cfgs (dats m) 0 (V0 m) [hostOps1] c main_v34 = pair (R2 m c) (rest (R2 m c)) := by
  have e9 := (entry m c 9).trans (final9 m c)
  unfold Pipeline.afterTail₀
  generalize Pipeline.withArrays (cfgs 0).spec c (V0 m c) (fun w => (dats m 0 c).arrAt w (cfgs 0).N) = W at e9 ⊢
  simp only [List.flatten_cons, List.flatten_nil, List.append_nil]
  after_results_simp
  exact congrArg (fun A => pair A (rest A)) e9

set_option backward.isDefEq.respectTransparency.types false in
/-- Every run of the kernel terminates, with the four results at the arrays computed above, the four arguments as launched and
    every counter at zero. -/
theorem run :
    θ_run defs (onTc (τ := τ) (main (F := Ideal))) ⟨m, fun _ => 0, ρ⟩ (fun r => (∀ c : Dev nD,
      (r.2.mem ((c.tc : Thread nD τ).loc main_v29) = pair (R0 m c) (R1 m c)
        ∧ r.2.mem ((c.tc : Thread nD τ).loc main_v34) = pair (R2 m c) (rest (R2 m c))
        ∧ r.2.mem ((c.tc : Thread nD τ).loc main_v26_3) = R3 m c
        ∧ r.2.mem ((c.tc : Thread nD τ).loc main_v26_4) = R4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around cfgs (dats m) 0 launch0 defs₀ Variants.none m ρ main
    (body_obligation m) (fun c => (dats m 0 c).share_full fun _ => rfl) (fun _ _ => rfl) (V0 m) [hostOps1]
    sfx_sub sfx_fresh sfx_keeps (hmain m Variants.none) (A_eq m) (fun _ _ => rfl) _
    fun r h => ⟨fun c =>
      ⟨⟨((h.1 c).2 main_v29 (Pipeline.mem_restRefs_of main_v29 (by decide) (by decide))).trans (tail_logits m c),
        ((h.1 c).2 main_v34 (Pipeline.mem_restRefs_of main_v34 (by decide) (by decide))).trans (tail_probs m c),
        ((h.1 c).1 10).trans (final10 m c), ((h.1 c).1 11).trans (final11 m c)⟩,
        ((h.1 c).2 main_arg0 (Pipeline.mem_restRefs_of main_arg0 (by decide) (by decide))).trans (W_main_arg0 m (dats m) c),
        ((h.1 c).2 main_arg1 (Pipeline.mem_restRefs_of main_arg1 (by decide) (by decide))).trans (W_main_arg1 m (dats m) c),
        ((h.1 c).2 main_arg2 (Pipeline.mem_restRefs_of main_arg2 (by decide) (by decide))).trans (W_main_arg2 m (dats m) c),
        ((h.1 c).2 main_arg3 (Pipeline.mem_restRefs_of main_arg3 (by decide) (by decide))).trans (W_main_arg3 m (dats m) c)⟩, h.2⟩

end Cert.Proof.Run

end
-- ==== Proof.Reference.lean ====
/-
  The reference's run, and its four results as terms of the arguments.

  @main is a list of 43 host operations. Every run ends with each result's buffer at the composition of those operations and
  the arguments unchanged. The composition is named in the reference's own steps: the gathered scores, the segment means, the
  softmax over the two children, the larger child, the entropy.
-/
module

public import proofs.«01_k».proof.Proof.Gen.ReferenceIdeal
public import Idealize.ShloMosaic.Lib.StableHlo.Run

@[expose] public section

set_option maxRecDepth 8192

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-! ## The steps -/

/-- The class each gathered position names, a negative one counted from the end. -/
def named (g : IVec S9976 32) : IVec S9976 32 :=
  select (cmpi .slt g (broadcastInDim S9976 ![] bcast_S_S9976 (constantI S_ 32 0#32)))
    (addi g (broadcastInDim S9976 ![] bcast_S_S9976 (constantI S_ 32 1000#32))) g

/-- The gathered scores, one row for each position of the gathered list. -/
def gathered (x : FVec F S4096x1000 .f32) (g : IVec S9976 32) : FVec F S9976x4096 .f32 :=
  Host.gather gather_S1000x4096_S9976x1_S9976x4096_1_0_n_n_0_1_14096
    (transpose S1000x4096 [1, 0] x transposes_S4096x1000_S1000x4096_1_0) (broadcastInDim S9976x1 ![0] bcast_S9976_S9976x1_0 (named g))

/-- The sum of each segment's scores. -/
def sums (x : FVec F S4096x1000 .f32) (g q : IVec S9976 32) : FVec F S1998x4096 .f32 :=
  Host.scatterAdd scatter_S1998x4096_S9976x1_S9976x4096_1_0_0_1
    (broadcastInDim S1998x4096 ![] bcast_S_S1998x4096 (constant S_ .f32 0x00000000#32)) (broadcastInDim S9976x1 ![0] bcast_S9976_S9976x1_0 q) (gathered x g)

/-- The mean of each segment's scores. -/
def means (x : FVec F S4096x1000 .f32) (g q : IVec S9976 32) (k : FVec F S1998 .f32) : FVec F S1998x4096 .f32 :=
  Host.divf (sums x g q) (broadcastInDim S1998x4096 ![0, 1] bcast_S1998x1_S1998x4096_0_1 (broadcastInDim S1998x1 ![0] bcast_S1998_S1998x1_0 k))

/-- The first result: the two children's means at each node. -/
def logits (x : FVec F S4096x1000 .f32) (g q : IVec S9976 32) (k : FVec F S1998 .f32) : FVec F S999x4096x2 .f32 :=
  transpose S999x4096x2 [0, 2, 1] (shapeCast S999x2x4096 (means x g q k) shapeCasts_S1998x4096_S999x2x4096) transposes_S999x2x4096_S999x4096x2_0_2_1

/-- A value for each node and row, read by both children. -/
def both (y : FVec F S999x4096 .f32) : FVec F S999x4096x2 .f32 :=
  broadcastInDim S999x4096x2 ![0, 1, 2] bcast_S999x4096x1_S999x4096x2_0_1_2 (broadcastInDim S999x4096x1 ![0, 1] bcast_S999x4096_S999x4096x1_0_1 y)

/-- The larger of the two children's values. -/
def peak (l : FVec F S999x4096x2 .f32) : FVec F S999x4096 .f32 :=
  maximumf (broadcastInDim S999x4096 ![] bcast_S_S999x4096 (constant S_ .f32 0xFF800000#32))
    (Host.reduce FloatOps.maximumf l (constant S_ .f32 0xFF800000#32) reducesTo_S999x4096x2_S999x4096_d2 h_S_)

/-- The sum of the two children's values. -/
def total (l : FVec F S999x4096x2 .f32) : FVec F S999x4096 .f32 :=
  Host.reduceAdd l (constant S_ .f32 0x00000000#32) reducesTo_S999x4096x2_S999x4096_d2 h_S_

/-- The exponentials the softmax weighs the two children by. -/
def weights (l : FVec F S999x4096x2 .f32) : FVec F S999x4096x2 .f32 := Host.exp (subf l (both (peak l)))

/-- The second result: the softmax of the two children's means. -/
def probs (l : FVec F S999x4096x2 .f32) : FVec F S999x4096x2 .f32 := Host.divf (weights l) (both (total (weights l)))

/-- The third result: the child of the larger mean. -/
def preds (l : FVec F S999x4096x2 .f32) : IVec S999x4096 32 :=
  fun j => (Host.argReduce reducer_argmax_f32_i32 l (iotaInDim S999x4096x2 32 2) (constant S_ .f32 0xFF800000#32) (constantI S_ 32 0#32)
    reducesTo_S999x4096x2_S999x4096_d2 h_S_ j).2

/-- The fourth result: the entropy of two probabilities. -/
def entropy (p : FVec F S999x4096x2 .f32) : FVec F S999x4096 .f32 := Host.negf (total (mulf p (Host.log p)))

/-! ## The run -/

/-- @main's operations, in order. -/
abbrev ops : List (HloOp τ sig (Elt F)) :=
  [ unary main_arg0 main_v0 ((transpose S1000x4096 [1, 0] · transposes_S4096x1000_S1000x4096_1_0) : (⟨S4096x1000, .f32⟩ : BufTy).Contents (Elt F) → (⟨S1000x4096, .f32⟩ : BufTy).Contents (Elt F)),
    nullary main_c (constantI S_ 32 0#32),
    unary main_c main_v1 (broadcastInDim S9976 ![] bcast_S_S9976 : (⟨S_, .i32⟩ : BufTy).Contents (Elt F) → (⟨S9976, .i32⟩ : BufTy).Contents (Elt F)),
    binary main_arg1 main_v1 main_v2 (cmpi .slt : (⟨S9976, .i32⟩ : BufTy).Contents (Elt F) → (⟨S9976, .i32⟩ : BufTy).Contents (Elt F) → (⟨S9976, .i1⟩ : BufTy).Contents (Elt F)),
    nullary main_c_0 (constantI S_ 32 1000#32),
    unary main_c_0 main_v3 (broadcastInDim S9976 ![] bcast_S_S9976 : (⟨S_, .i32⟩ : BufTy).Contents (Elt F) → (⟨S9976, .i32⟩ : BufTy).Contents (Elt F)),
    binary main_arg1 main_v3 main_v4 (addi : (⟨S9976, .i32⟩ : BufTy).Contents (Elt F) → (⟨S9976, .i32⟩ : BufTy).Contents (Elt F) → (⟨S9976, .i32⟩ : BufTy).Contents (Elt F)),
    ternary main_v2 main_v4 main_arg1 main_v5 (select : (⟨S9976, .i1⟩ : BufTy).Contents (Elt F) → (⟨S9976, .i32⟩ : BufTy).Contents (Elt F) → (⟨S9976, .i32⟩ : BufTy).Contents (Elt F) → (⟨S9976, .i32⟩ : BufTy).Contents (Elt F)),
    unary main_v5 main_v6 (broadcastInDim S9976x1 ![0] bcast_S9976_S9976x1_0 : (⟨S9976, .i32⟩ : BufTy).Contents (Elt F) → (⟨S9976x1, .i32⟩ : BufTy).Contents (Elt F)),
    binary main_v0 main_v6 main_v7 ((fun x i => Host.gather gather_S1000x4096_S9976x1_S9976x4096_1_0_n_n_0_1_14096 x i) : (⟨S1000x4096, .f32⟩ : BufTy).Contents (Elt F) → (⟨S9976x1, .i32⟩ : BufTy).Contents (Elt F) → (⟨S9976x4096, .f32⟩ : BufTy).Contents (Elt F)),
    nullary main_cst (constant S_ .f32 0x00000000#32),
    unary main_cst main_v8 (broadcastInDim S1998x4096 ![] bcast_S_S1998x4096 : (⟨S_, .f32⟩ : BufTy).Contents (Elt F) → (⟨S1998x4096, .f32⟩ : BufTy).Contents (Elt F)),
    unary main_arg2 main_v9 (broadcastInDim S9976x1 ![0] bcast_S9976_S9976x1_0 : (⟨S9976, .i32⟩ : BufTy).Contents (Elt F) → (⟨S9976x1, .i32⟩ : BufTy).Contents (Elt F)),
    ternary main_v8 main_v9 main_v7 main_v10 ((fun x i u => Host.scatterAdd scatter_S1998x4096_S9976x1_S9976x4096_1_0_0_1 x i u) : (⟨S1998x4096, .f32⟩ : BufTy).Contents (Elt F) → (⟨S9976x1, .i32⟩ : BufTy).Contents (Elt F) → (⟨S9976x4096, .f32⟩ : BufTy).Contents (Elt F) → (⟨S1998x4096, .f32⟩ : BufTy).Contents (Elt F)),
    unary main_arg3 main_v11 (broadcastInDim S1998x1 ![0] bcast_S1998_S1998x1_0 : (⟨S1998, .f32⟩ : BufTy).Contents (Elt F) → (⟨S1998x1, .f32⟩ : BufTy).Contents (Elt F)),
    unary main_v11 main_v12 (broadcastInDim S1998x4096 ![0, 1] bcast_S1998x1_S1998x4096_0_1 : (⟨S1998x1, .f32⟩ : BufTy).Contents (Elt F) → (⟨S1998x4096, .f32⟩ : BufTy).Contents (Elt F)),
    binary main_v10 main_v12 main_v13 (Host.divf : (⟨S1998x4096, .f32⟩ : BufTy).Contents (Elt F) → (⟨S1998x4096, .f32⟩ : BufTy).Contents (Elt F) → (⟨S1998x4096, .f32⟩ : BufTy).Contents (Elt F)),
    reshape main_v13 main_v14 (rfl : (.f32 : EltTy) = .f32) shapeCasts_S1998x4096_S999x2x4096,
    unary main_v14 main_v15 ((transpose S999x4096x2 [0, 2, 1] · transposes_S999x2x4096_S999x4096x2_0_2_1) : (⟨S999x2x4096, .f32⟩ : BufTy).Contents (Elt F) → (⟨S999x4096x2, .f32⟩ : BufTy).Contents (Elt F)),
    nullary main_cst_1 (constant S_ .f32 0xFF800000#32),
    binary main_v15 main_cst_1 main_v16 ((fun x v => Host.reduce FloatOps.maximumf x v reducesTo_S999x4096x2_S999x4096_d2 h_S_) : (⟨S999x4096x2, .f32⟩ : BufTy).Contents (Elt F) → (⟨S_, .f32⟩ : BufTy).Contents (Elt F) → (⟨S999x4096, .f32⟩ : BufTy).Contents (Elt F)),
    nullary main_cst_2 (constant S_ .f32 0xFF800000#32),
    unary main_cst_2 main_v17 (broadcastInDim S999x4096 ![] bcast_S_S999x4096 : (⟨S_, .f32⟩ : BufTy).Contents (Elt F) → (⟨S999x4096, .f32⟩ : BufTy).Contents (Elt F)),
    binary main_v17 main_v16 main_v18 (maximumf : (⟨S999x4096, .f32⟩ : BufTy).Contents (Elt F) → (⟨S999x4096, .f32⟩ : BufTy).Contents (Elt F) → (⟨S999x4096, .f32⟩ : BufTy).Contents (Elt F)),
    unary main_v18 main_v19 (broadcastInDim S999x4096x1 ![0, 1] bcast_S999x4096_S999x4096x1_0_1 : (⟨S999x4096, .f32⟩ : BufTy).Contents (Elt F) → (⟨S999x4096x1, .f32⟩ : BufTy).Contents (Elt F)),
    unary main_v19 main_v20 (broadcastInDim S999x4096x2 ![0, 1, 2] bcast_S999x4096x1_S999x4096x2_0_1_2 : (⟨S999x4096x1, .f32⟩ : BufTy).Contents (Elt F) → (⟨S999x4096x2, .f32⟩ : BufTy).Contents (Elt F)),
    binary main_v15 main_v20 main_v21 (subf : (⟨S999x4096x2, .f32⟩ : BufTy).Contents (Elt F) → (⟨S999x4096x2, .f32⟩ : BufTy).Contents (Elt F) → (⟨S999x4096x2, .f32⟩ : BufTy).Contents (Elt F)),
    unary main_v21 main_v22 (Host.exp : (⟨S999x4096x2, .f32⟩ : BufTy).Contents (Elt F) → (⟨S999x4096x2, .f32⟩ : BufTy).Contents (Elt F)),
    nullary main_cst_3 (constant S_ .f32 0x00000000#32),
    binary main_v22 main_cst_3 main_v23 ((fun x v => Host.reduceAdd x v reducesTo_S999x4096x2_S999x4096_d2 h_S_) : (⟨S999x4096x2, .f32⟩ : BufTy).Contents (Elt F) → (⟨S_, .f32⟩ : BufTy).Contents (Elt F) → (⟨S999x4096, .f32⟩ : BufTy).Contents (Elt F)),
    unary main_v23 main_v24 (broadcastInDim S999x4096x1 ![0, 1] bcast_S999x4096_S999x4096x1_0_1 : (⟨S999x4096, .f32⟩ : BufTy).Contents (Elt F) → (⟨S999x4096x1, .f32⟩ : BufTy).Contents (Elt F)),
    unary main_v24 main_v25 (broadcastInDim S999x4096x2 ![0, 1, 2] bcast_S999x4096x1_S999x4096x2_0_1_2 : (⟨S999x4096x1, .f32⟩ : BufTy).Contents (Elt F) → (⟨S999x4096x2, .f32⟩ : BufTy).Contents (Elt F)),
    binary main_v22 main_v25 main_v26 (Host.divf : (⟨S999x4096x2, .f32⟩ : BufTy).Contents (Elt F) → (⟨S999x4096x2, .f32⟩ : BufTy).Contents (Elt F) → (⟨S999x4096x2, .f32⟩ : BufTy).Contents (Elt F)),
    nullary main_call0_v0 (iotaInDim S999x4096x2 32 2),
    nullary main_call0_cst (constant S_ .f32 0xFF800000#32),
    nullary main_call0_c (constantI S_ 32 0#32),
    quaternary main_v15 main_call0_v0 main_call0_cst main_call0_c main_call0_v1_0 ((fun x y u v j => (Host.argReduce reducer_argmax_f32_i32 x y u v reducesTo_S999x4096x2_S999x4096_d2 h_S_ j).1) : (⟨S999x4096x2, .f32⟩ : BufTy).Contents (Elt F) → (⟨S999x4096x2, .i32⟩ : BufTy).Contents (Elt F) → (⟨S_, .f32⟩ : BufTy).Contents (Elt F) → (⟨S_, .i32⟩ : BufTy).Contents (Elt F) → (⟨S999x4096, .f32⟩ : BufTy).Contents (Elt F)),
    quaternary main_v15 main_call0_v0 main_call0_cst main_call0_c main_v27 ((fun x y u v j => (Host.argReduce reducer_argmax_f32_i32 x y u v reducesTo_S999x4096x2_S999x4096_d2 h_S_ j).2) : (⟨S999x4096x2, .f32⟩ : BufTy).Contents (Elt F) → (⟨S999x4096x2, .i32⟩ : BufTy).Contents (Elt F) → (⟨S_, .f32⟩ : BufTy).Contents (Elt F) → (⟨S_, .i32⟩ : BufTy).Contents (Elt F) → (⟨S999x4096, .i32⟩ : BufTy).Contents (Elt F)),
    unary main_v26 main_v28 (Host.log : (⟨S999x4096x2, .f32⟩ : BufTy).Contents (Elt F) → (⟨S999x4096x2, .f32⟩ : BufTy).Contents (Elt F)),
    binary main_v26 main_v28 main_v29 (mulf : (⟨S999x4096x2, .f32⟩ : BufTy).Contents (Elt F) → (⟨S999x4096x2, .f32⟩ : BufTy).Contents (Elt F) → (⟨S999x4096x2, .f32⟩ : BufTy).Contents (Elt F)),
    nullary main_cst_4 (constant S_ .f32 0x00000000#32),
    binary main_v29 main_cst_4 main_v30 ((fun x v => Host.reduceAdd x v reducesTo_S999x4096x2_S999x4096_d2 h_S_) : (⟨S999x4096x2, .f32⟩ : BufTy).Contents (Elt F) → (⟨S_, .f32⟩ : BufTy).Contents (Elt F) → (⟨S999x4096, .f32⟩ : BufTy).Contents (Elt F)),
    unary main_v30 main_v31 (Host.negf : (⟨S999x4096, .f32⟩ : BufTy).Contents (Elt F) → (⟨S999x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., binary_bufs_sub .., nullary_bufs_sub .., binary_bufs_sub .., unary_bufs_sub ..⟩

/-- Every run of the reference ends with its four results at the steps above and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      (r.2.mem ((c.tc : Thread nD τ).loc main_v15) = logits (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v26) = probs (logits (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v27) = preds (logits (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v31) = entropy (probs (logits (m ((c.tc : Thread nD τ).loc main_arg0)) (m ((c.tc : Thread nD τ).loc main_arg1)) (m ((c.tc : Thread nD τ).loc main_arg2)) (m ((c.tc : Thread nD τ).loc main_arg3)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨(h c main_v15).trans (by after_results_simp <;> rfl), (h c main_v26).trans (by after_results_simp <;> rfl),
      (h c main_v27).trans (by after_results_simp <;> rfl), (h c main_v31).trans (by after_results_simp <;> rfl)⟩,
      (h c main_arg0).trans (by after_results_simp <;> rfl), (h c main_arg1).trans (by after_results_simp <;> rfl),
      (h c main_arg2).trans (by after_results_simp <;> rfl), (h c main_arg3).trans (by after_results_simp <;> rfl)⟩)
    (run_seq scopedRefs_eq scopedSems_eq defs main (fun _ => ops) main_eq (fun _ => ops_sub) m ρ)

/-- The reference declares no counter. -/
theorem no_counter (f : GSem nD τ sig → ℤ) : f = fun _ => 0 :=
  haveI : IsEmpty (SemLoc sig) := Fintype.card_eq_zero_iff.1 (by decide)
  funext fun s => isEmptyElim s.2

end Cert.Proof.Reference

end
-- ==== Proof.Segments.lean ====
/-
  The precondition in words: what `tree_segments` says of the four arguments.

  Its printed function is a conjunction of `jnp.all`s. Each is read here at one index, over the integers, so that no other
  module meets the predicate's operations.
-/
module

public import proofs.«01_k».proof.Pre_tree_segments
public import Idealize.ShloMosaic.PureOps.Ideal
public import Idealize.ShloMosaic.PureOps.Ideal.Laws
public import Idealize.ShloMosaic.Lib.ReduceAll
public import Idealize.ShloMosaic.Lib.Affine
public import Idealize.ShloMosaic.Lib.IdealHost
public import Idealize.ShloMosaic.Lib.ValueIdx
public import Idealize.ShloMosaic.Lib.WordCmp
public import Idealize.ShloMosaic.Lib.Pipeline.Value
public import Idealize.ShloMosaic.Lib.Pointwise

@[expose] public section

set_option maxRecDepth 16384

noncomputable section

namespace Cert.Proof.Segments

open Idealize.ShloMosaic hiding ix1 ix2
open Idealize.ShloMosaic.ValueIdx Cert.Pre_tree_segments

set_option Elab.async false in
/-- The shape relations the predicate's operations take. -/
instance facts : Cert.Pre_tree_segments.Facts where
  bcast_S_S1 := by decide
  bcast_S_S_ := by decide
  reduceWindows_S1998_S1998_w1998s1p1997_0 := by decide
  h_S_ := by decide
  slices_S1998_S1997_0 := by decide
  concatenates_S1_S1997_S1998_d0 := by decide
  bcast_S9976_S1x9976_1 := by decide
  bcast_S1998_S1998x1_0 := by decide
  bcast_S1x9976_S1998x9976_0_1 := by decide
  bcast_S1998x1_S1998x9976_0_1 := by decide
  slices_S9976_S9975_1 := by decide
  slices_S9976_S9975_0 := by decide
  bcast_S_S4096x1000 := by decide
  reducesTo_S4096x1000_S_d0_1 := by decide
  reducesTo_S1998_S_d0 := by decide
  bcast_S_S1998 := by decide
  reducesTo_S1998x9976_S_d0_1 := by decide
  bcast_S_S9976 := by decide
  reducesTo_S9976_S_d0 := by decide
  bcast_S_S9975 := by decide
  reducesTo_S9975_S_d0 := by decide

/-- The class counts as the predicate and the kernel read them: the float counts converted to words. -/
def number (k : FVec Ideal S1998 .f32) : IVec S1998 32 := fptosi 32 k

/-- Where each segment starts: the sum of the counts of the segments before it, as the predicate and the kernel compute it. -/
def offset (k : FVec Ideal S1998 .f32) : IVec S1998 32 :=
  concatenate S1998 0 [⟨S1, broadcastInDim S1 ![] Facts.bcast_S_S1 (constantI S_ 32 0#32)⟩,
    ⟨S1997, extractStridedSlice S1997 ![0] (fn_cumsum (F := Ideal) (number k)) Facts.slices_S1998_S1997_0⟩]
    Facts.concatenates_S1_S1997_S1998_d0

/-- What the precondition says of the arguments: the scores `x`, the gathered classes `g`, the segment of each of them `q`
    and the float counts `k`. -/
structure Layout (x : FVec Ideal S4096x1000 .f32) (g q : IVec S9976 32) (k : FVec Ideal S1998 .f32) : Prop where
  /-- Every score is a real number. -/
  finite : ∀ i, x i ≠ ⊤ ∧ x i ≠ ⊥
  /-- Every count is a whole number. -/
  whole : ∀ s, k s = (((number k s).toInt : ℝ) : EReal)
  /-- Every count is at least one. -/
  count : ∀ s, 1 ≤ (number k s).toInt
  /-- Every segment is a nonempty range of the gathered list. -/
  range : ∀ s, 0 ≤ (offset k s).toInt ∧ (offset k s).toInt < (offset k s + number k s).toInt ∧ (offset k s + number k s).toInt ≤ 9976
  /-- The positions that name segment `s` are the ones of its range. -/
  member : ∀ (s : Fin 1998) (i : Fin 9976),
    ((offset k (ix1 s)).toInt ≤ (i.val : ℤ) ∧ (i.val : ℤ) < (offset k (ix1 s) + number k (ix1 s)).toInt) ↔ (q (ix1 i)).toInt = (s.val : ℤ)
  /-- Every gathered class is one. -/
  cls : ∀ i, 0 ≤ (g i).toInt ∧ (g i).toInt < 1000
  /-- Within a segment the gathered classes are consecutive. -/
  next : ∀ i : ℕ, ∀ h : i + 1 < 9976, q (ix1 ⟨i + 1, h⟩) = q (ix1 ⟨i, by omega⟩) →
    g (ix1 ⟨i + 1, h⟩) = g (ix1 ⟨i, by omega⟩) + 1#32

/-- Two one-bit words that agree are true together. -/
theorem bit_iff {a b : BitVec 1} (h : IntOp.cmpi .eq a b = 1#1) : a = 1#1 ↔ b = 1#1 := by
  rw [IntOp.cmpi_eq] at h; rw [h]

/-- A vector over the gathered list, laid along every row. -/
theorem row_at (y : IVec S9976 32) (s : Fin 1998) (i : Fin 9976) :
    broadcastInDim S1998x9976 ![0, 1] Facts.bcast_S1x9976_S1998x9976_0_1 (broadcastInDim S1x9976 ![1] Facts.bcast_S9976_S1x9976_1 y) (ix2 s i)
      = y (ix1 i) :=
  (broadcastInDim_apply _ _ _ _ (ix2 (0 : Fin 1) i) fun a => by match a with | ⟨0, _⟩ => rfl | ⟨1, _⟩ => rfl).trans
    (broadcastInDim_apply _ _ _ _ _ fun a => by match a with | ⟨0, _⟩ => rfl)

/-- A vector over the segments, laid along every column. -/
theorem col_at (y : IVec S1998 32) (s : Fin 1998) (i : Fin 9976) :
    broadcastInDim S1998x9976 ![0, 1] Facts.bcast_S1998x1_S1998x9976_0_1 (broadcastInDim S1998x1 ![0] Facts.bcast_S1998_S1998x1_0 y) (ix2 s i)
      = y (ix1 s) :=
  (broadcastInDim_apply _ _ _ _ (ix2 s (0 : Fin 1)) fun a => by match a with | ⟨0, _⟩ => rfl | ⟨1, _⟩ => rfl).trans
    (broadcastInDim_apply _ _ _ _ _ fun a => by match a with | ⟨0, _⟩ => rfl)

/-- The conjuncts of the predicate, each a `jnp.all`. -/
theorem layout_of_pre (x : FVec Ideal S4096x1000 .f32) (g q : IVec S9976 32) (k : FVec Ideal S1998 .f32)
    (h : fn (F := Ideal) x g q k = fun _ => 1#1) : Layout x g q k := by
  have e := congrFun h (Shape.Idx.first (s := S_) (by decide))
  unfold fn fn_part1 fn_part2 fn_part3 at e
  dsimp only at e
  simp only [WordCmp.andi_at, IntOp.andi_eq_one] at e
  haveI : Subsingleton S_.Idx := ⟨fun a b => (eq_ix0 a).trans (eq_ix0 b).symm⟩
  obtain ⟨⟨⟨⟨⟨⟨e1, e2⟩, e3⟩, e4⟩, e5⟩, e6⟩, e7⟩ := e
  have e1 := Host.reduce_andi_all _ _ _ _ _ e1
  have e2 := Host.reduce_andi_all _ _ _ _ _ e2
  have e3 := Host.reduce_andi_all _ _ _ _ _ e3
  have e4 := Host.reduce_andi_all _ _ _ _ _ e4
  have e5 := Host.reduce_andi_all _ _ _ _ _ e5
  have e6 := Host.reduce_andi_all _ _ _ _ _ e6
  have e7 := Host.reduce_andi_all _ _ _ _ _ e7
  refine ⟨?_, ?_, ?_, ?_, ?_, ?_, ?_⟩
  · intro i
    have h := (WordCmp.ofBool_eq_one_iff _).1 (e1 i)
    have h : max (x i) (-(x i)) < Ideal.ofBits .f32 0x7F800000#32 := of_decide_eq_true h
    rw [show Ideal.ofBits .f32 0x7F800000#32 = ⊤ from by simp [Ideal.ofBits, Ideal.ieee], max_lt_iff] at h
    exact ⟨h.1.ne, fun e => by rw [e] at h; exact absurd h.2 (by simp)⟩
  · intro s
    exact (of_decide_eq_true ((WordCmp.ofBool_eq_one_iff _).1 (e2 s))).symm
  · intro s
    exact IntOp.cmpi_sge.1 (e3 s)
  · intro s
    obtain ⟨h12, h3⟩ := IntOp.andi_eq_one.1 (e4 s)
    obtain ⟨h1, h2⟩ := IntOp.andi_eq_one.1 h12
    exact ⟨IntOp.cmpi_sge.1 h1, IntOp.cmpi_slt.1 h2, IntOp.cmpi_sle.1 h3⟩
  · intro s i
    have h := bit_iff (e5 (ix2 s i))
    have hi : (BitVec.ofNat 32 i.val).toInt = (i.val : ℤ) := WordCmp.toInt_ofNat_of_lt (by have := i.isLt; omega)
    have hs : (BitVec.ofNat 32 s.val).toInt = (s.val : ℤ) := WordCmp.toInt_ofNat_of_lt (by have := s.isLt; omega)
    have cO := congrArg BitVec.toInt (col_at (offset k) s i)
    have cE := congrArg BitVec.toInt (col_at (addi (offset k) (number k)) s i)
    have rI := (congrArg BitVec.toInt (row_at (iotaInDim S9976 32 0) s i)).trans hi
    have rQ := row_at q s i
    have cS := col_at (iotaInDim S1998 32 0) s i
    constructor
    · rintro ⟨h1, h2⟩
      have e := IntOp.cmpi_eq.1 (h.1 (IntOp.andi_eq_one.2
        ⟨IntOp.cmpi_sge.2 (cO.le.trans (h1.trans rI.ge)), IntOp.cmpi_slt.2 (rI.trans_lt (h2.trans_eq cE.symm))⟩))
      rw [← rQ, e, cS]
      exact hs
    · intro e
      obtain ⟨h1, h2⟩ := IntOp.andi_eq_one.1 (h.2 (IntOp.cmpi_eq.2 (rQ.trans ((BitVec.eq_of_toInt_eq (e.trans hs.symm)).trans cS.symm))))
      exact ⟨cO.ge.trans ((IntOp.cmpi_sge.1 h1).trans rI.le), rI.symm.trans_lt ((IntOp.cmpi_slt.1 h2).trans_eq cE)⟩
  · intro i
    obtain ⟨h1, h2⟩ := IntOp.andi_eq_one.1 (e6 i)
    exact ⟨IntOp.cmpi_sge.1 h1, IntOp.cmpi_slt.1 h2⟩
  · intro i hi hq
    have up : ∀ y : IVec S9976 32, extractStridedSlice S9975 ![1] y Facts.slices_S9976_S9975_1 (ix1 ⟨i, by omega⟩) = y (ix1 ⟨i + 1, hi⟩) :=
      fun y => extractStridedSlice_apply _ _ _ _ _ fun d => by match d with | ⟨0, _⟩ => exact Nat.add_comm i 1
    have lo : ∀ y : IVec S9976 32, extractStridedSlice S9975 ![0] y Facts.slices_S9976_S9975_0 (ix1 ⟨i, by omega⟩) = y (ix1 ⟨i, by omega⟩) :=
      fun y => extractStridedSlice_apply _ _ _ _ _ fun d => by match d with | ⟨0, _⟩ => exact (Nat.zero_add i).symm
    rcases IntOp.ori_eq_one.1 (e7 (ix1 ⟨i, by omega⟩)) with h | h
    · exact absurd (IntOp.cmpi_eq.2 ((up q).trans (hq.trans (lo q).symm))) (IntOp.not_eq_one.1 h)
    · exact (up g).symm.trans ((IntOp.cmpi_eq.1 h).trans (congrArg (· + 1#32) (lo g)))

end Cert.Proof.Segments

end
-- ==== Proof.Stretch.lean ====
/-
  A segment as a stretch of classes: over the gathered list, the positions of a segment name consecutive classes, so a sum
  over those positions is a sum over a range of classes.
-/
module

public import proofs.«01_k».proof.Proof.Segments

@[expose] public section

noncomputable section

namespace Cert.Proof.Stretch

open Idealize.ShloMosaic hiding ix1 ix2
open Idealize.ShloMosaic.ValueIdx Cert.Pre_tree_segments Cert.Proof.Segments

/-- Two words whose sum as integers fits add as integers. -/
theorem toInt_add_of_fits (a b : BitVec 32) (h0 : 0 ≤ a.toInt + b.toInt) (h1 : a.toInt + b.toInt < 2147483648) :
    (a + b).toInt = a.toInt + b.toInt := by
  rw [BitVec.toInt_add]
  exact Int.bmod_eq_of_le (by omega) (by omega)

/-- A sum above its first word, the second not negative, did not wrap. -/
theorem fits_of_lt (a b : BitVec 32) (h : a.toInt < (a + b).toInt) : a.toInt + b.toInt < 2147483648 := by
  have ha := BitVec.toInt_lt (x := a)
  have hb := BitVec.toInt_lt (x := b)
  rw [BitVec.toInt_add, Int.bmod_def] at h
  split at h <;> omega

/-- Segment `s` in natural numbers: its first position `o`, its length `n`, its first class `a`. -/
structure Range (g q : IVec S9976 32) (k : FVec Ideal S1998 .f32) (s : Fin 1998) (o n a : ℕ) : Prop where
  /-- The first position, as the word the programs compute. -/
  first : (offset k (ix1 s)).toInt = o
  /-- The length likewise. -/
  length : (number k (ix1 s)).toInt = n
  /-- A segment is not empty. -/
  pos : 1 ≤ n
  /-- It ends inside the gathered list. -/
  inList : o + n ≤ 9976
  /-- Its classes are classes. -/
  inClasses : a + n ≤ 1000
  /-- A position names the segment exactly when it is in the range. -/
  member : ∀ i : Fin 9976, (q (ix1 i)).toInt = s.val ↔ o ≤ i.val ∧ i.val < o + n
  /-- The class at a position of the range. -/
  cls : ∀ i : Fin 9976, o ≤ i.val → i.val < o + n → (g (ix1 i)).toInt = a + (i.val - o : ℕ)

/-- Under the precondition every segment is such a stretch. -/
theorem range_of_layout {x : FVec Ideal S4096x1000 .f32} {g q : IVec S9976 32} {k : FVec Ideal S1998 .f32}
    (h : Layout x g q k) (s : Fin 1998) : ∃ o n a : ℕ, Range g q k s o n a := by
  have hc := h.count (ix1 s)
  have hr := h.range (ix1 s)
  have hm := h.member s
  obtain ⟨o, ho⟩ := Int.eq_ofNat_of_zero_le hr.1
  obtain ⟨n, hn⟩ := Int.eq_ofNat_of_zero_le (show 0 ≤ (number k (ix1 s)).toInt by omega)
  have hsum := toInt_add_of_fits (offset k (ix1 s)) (number k (ix1 s)) (by omega)
    (fits_of_lt _ _ hr.2.1)
  rw [hsum, ho, hn] at hr hm
  rw [hn] at hc
  have bound : o + n ≤ 9976 := by omega
  have mem : ∀ i : Fin 9976, (q (ix1 i)).toInt = s.val ↔ o ≤ i.val ∧ i.val < o + n := fun i => by
    rw [← hm i]; omega
  obtain ⟨a, ha⟩ := Int.eq_ofNat_of_zero_le (h.cls (ix1 ⟨o, by omega⟩)).1
  have steps : ∀ t : ℕ, ∀ ht : o + t < 9976, t < n → (g (ix1 ⟨o + t, ht⟩)).toInt = a + t := by
    intro t
    induction t with
    | zero => intro _ _; simpa using ha
    | succ t ih =>
      intro ht hl
      have e0 := ih (by omega) (by omega)
      have eq : q (ix1 ⟨o + t + 1, ht⟩) = q (ix1 ⟨o + t, by omega⟩) :=
        BitVec.eq_of_toInt_eq (((mem ⟨o + t + 1, ht⟩).2 ⟨by simp; omega, by simp; omega⟩).trans
          ((mem ⟨o + t, by omega⟩).2 ⟨by simp, by simp; omega⟩).symm)
      have e1 := h.next (o + t) ht eq
      have e2 := (h.cls (ix1 ⟨o + t, by omega⟩))
      have e3 := toInt_add_of_fits (g (ix1 ⟨o + t, by omega⟩)) 1#32 (by simp; omega) (by simp; omega)
      show (g (ix1 ⟨o + t + 1, ht⟩)).toInt = _
      rw [e1, e3, e0]
      push_cast
      simp [add_assoc]
  refine ⟨o, n, a, ho, hn, by omega, bound, ?_, mem, fun i h1 h2 => ?_⟩
  · have e := steps (n - 1) (by omega) (by omega)
    have := (h.cls (ix1 ⟨o + (n - 1), by omega⟩)).2
    rw [e] at this
    omega
  · have e := steps (i.val - o) (by omega) (by omega)
    have hi : (⟨o + (i.val - o), by omega⟩ : Fin 9976) = i := Fin.ext (by simp; omega)
    rw [hi] at e
    exact e

/-- A sum over the positions that name a segment is a sum over the segment's range of classes. -/
theorem sum_eq {g q : IVec S9976 32} {k : FVec Ideal S1998 .f32} {s : Fin 1998} {o n a : ℕ} (r : Range g q k s o n a)
    (f : Fin 1000 → EReal) (y : Fin 9976 → EReal)
    (hy : ∀ (i : Fin 9976) (j : Fin 1000), (g (ix1 i)).toInt = j.val → y i = f j) :
    ∑ i ∈ Finset.univ.filter (fun i : Fin 9976 => (q (ix1 i)).toInt = s.val), y i
      = ∑ j ∈ Finset.univ.filter (fun j : Fin 1000 => a ≤ j.val ∧ j.val < a + n), f j := by
  have h1 := r.inList
  have h2 := r.inClasses
  refine Finset.sum_bij (fun i hi => ⟨a + (i.val - o), by
      have := (r.member i).1 (Finset.mem_filter.1 hi).2; omega⟩) ?_ ?_ ?_ ?_
  · intro i hi
    have := (r.member i).1 (Finset.mem_filter.1 hi).2
    exact Finset.mem_filter.2 ⟨Finset.mem_univ _, by simp, by simp; omega⟩
  · intro i hi i' hi' e
    have := (r.member i).1 (Finset.mem_filter.1 hi).2
    have := (r.member i').1 (Finset.mem_filter.1 hi').2
    have := congrArg Fin.val e
    refine Fin.ext ?_
    simp only at this
    omega
  · intro j hj
    have hj := (Finset.mem_filter.1 hj).2
    refine ⟨⟨o + (j.val - a), by omega⟩, Finset.mem_filter.2 ⟨Finset.mem_univ _, (r.member _).2 ⟨by simp, by simp; omega⟩⟩, Fin.ext ?_⟩
    simp only
    omega
  · intro i hi
    have hm := (r.member i).1 (Finset.mem_filter.1 hi).2
    exact hy i _ ((r.cls i hm.1 hm.2).trans (by push_cast; rfl))

end Cert.Proof.Stretch

end
-- ==== Proof.Host.lean ====
/-
  What the kernel's host operations hand to the region, read at a row: each node's first child is segment `2 r`, its second
  `2 r + 1`, and a segment starts at the class its first position of the gathered list names.
-/
module

public import proofs.«01_k».proof.Proof.Windows
public import proofs.«01_k».proof.Proof.Stretch

@[expose] public section

set_option maxRecDepth 16384

noncomputable section

namespace Cert.Proof.Host

open Cert.KernelIdeal Cert.KernelIdeal.Gen Cert.Proof.Segments Cert.Proof.Stretch
open Idealize.ShloMosaic hiding ix1 ix2
open Idealize.ShloMosaic.TcCoe Idealize.ShloMosaic.Tactic Idealize.ShloMosaic.StableHlo
open Idealize.ShloMosaic.ValueIdx

/-- The gathered list's position a segment starts at, a negative one counted from the end. -/
def wrapped (f : IVec S1998 32) : IVec S1998 32 :=
  select (cmpi .slt f (broadcastInDim S1998 ![] bcast_S_S1998 (constantI S_ 32 0#32)))
    (addi f (broadcastInDim S1998 ![] bcast_S_S1998 (constantI S_ 32 9976#32))) f

/-- The class the list names at each segment's position. -/
def named (g : IVec S9976 32) (f : IVec S1998 32) : IVec S1998 32 :=
  Host.gather gather_S9976_S1998x1_S1998_n_0_n_n_0_1_1 g (broadcastInDim S1998x1 ![0] bcast_S1998_S1998x1_0 (wrapped f))

/-- A zero before the sums of all counts but the last. -/
def shifted (z : IVec S1 32) (f : IVec S1998 32) : IVec S1998 32 :=
  concatenate S1998 0 [⟨S1, z⟩, ⟨S1997, extractStridedSlice S1997 ![0] f slices_S1998_S1997_0⟩] concatenates_S1_S1997_S1998_d0

/-- The class each segment starts at. -/
def starts (g : IVec S9976 32) (k : FVec Ideal S1998 .f32) : IVec S1998 32 := named g (offset k)

/-- The class each segment ends before. -/
def ends (g : IVec S9976 32) (k : FVec Ideal S1998 .f32) : IVec S1998 32 := addi (starts g k) (number k)

/-- Every second entry from the first on, as a column. -/
def evens {α : Type} (y : S1998.Idx → α) : S999x1.Idx → α :=
  broadcastInDim S999x1 ![0] bcast_S999_S999x1_0 (Host.slice S999 ![0] ![2] y slicesBy_S1998_S999_0s2)

/-- Every second entry from the second on, as a column. -/
def odds {α : Type} (y : S1998.Idx → α) : S999x1.Idx → α :=
  broadcastInDim S999x1 ![0] bcast_S999_S999x1_0 (Host.slice S999 ![1] ![2] y slicesBy_S1998_S999_1s2)

section Entry
variable (m : (ℓ : Loc nD τ sig) → Buf (Elt Ideal) ℓ) (c : Dev nD)

/-- The memory after the counts are converted and summed up. -/
abbrev summed : Valuation τ sig (Elt Ideal) := StableHlo.after (hostOps0 ++ hostOps0_1) (fun b => m (c, b))

/-- What that memory holds, where the later operations read it. -/
theorem summed_at : summed m c (Proc.tc.devRef main_v0) = number (m ((c.tc : Thread nD τ).loc main_arg3))
    ∧ summed m c (Proc.tc.devRef main_v1) = broadcastInDim S1 ![] bcast_S_S1 (constantI S_ 32 0#32)
    ∧ summed m c (Proc.tc.devRef main_v2) = Cert.Pre_tree_segments.fn_cumsum (F := Ideal) (number (m ((c.tc : Thread nD τ).loc main_arg3)))
    ∧ summed m c (Proc.tc.devRef main_arg0) = m ((c.tc : Thread nD τ).loc main_arg0)
    ∧ summed m c (Proc.tc.devRef main_arg1) = m ((c.tc : Thread nD τ).loc main_arg1)
    ∧ summed m c (Proc.tc.devRef main_arg3) = m ((c.tc : Thread nD τ).loc main_arg3) := by
  unfold summed
  simp only [List.cons_append, List.nil_append]
  refine ⟨?_, ?_, ?_, ?_, ?_, ?_⟩
  · after_results_simp; rfl
  · after_results_simp
  · after_results_simp
    unfold Cert.Pre_tree_segments.fn_cumsum Cert.Pre_tree_segments.fn_cumsum_0
    simp only [TRef.toBuf, TRef.ofBuf, cast_eq]
    rfl
  · after_results_simp
  · after_results_simp
  · after_results_simp

/-- Operations run one list after another. -/
theorem after_append {l l' : List (HloOp τ sig (Elt Ideal))} (W : Valuation τ sig (Elt Ideal)) :
    StableHlo.after (l ++ l') W = StableHlo.after l' (StableHlo.after l W) := by
  induction l generalizing W with
  | nil => rfl
  | cons o l ih => exact ih _

section Rest
variable (W : Valuation τ sig (Elt Ideal))

/-- The first classes of the segments, over any memory. -/
abbrev startsIn : IVec S1998 32 :=
  named (W (Proc.tc.devRef main_arg1)) (shifted (W (Proc.tc.devRef main_v1)) (W (Proc.tc.devRef main_v2)))

/-- The starts of the first children, over any memory. -/
theorem start0_in : StableHlo.after hostOps0_2 W (Proc.tc.devRef main_v14) = evens (startsIn W) := by
  after_results_simp
  refine congrArg (fun f => evens (named (W (Proc.tc.devRef main_arg1)) f)) (congrArg₂ shifted ?_ ?_) <;> after_results_simp <;> rfl
/-- The ends of the first children. -/
theorem end0_in : StableHlo.after hostOps0_2 W (Proc.tc.devRef main_v16) = evens (addi (startsIn W) (W (Proc.tc.devRef main_v0))) := by
  after_results_simp
  refine congrArg (fun f => evens (addi (named (W (Proc.tc.devRef main_arg1)) f) (W (Proc.tc.devRef main_v0)))) (congrArg₂ shifted ?_ ?_) <;> after_results_simp <;> rfl
/-- The starts of the second children. -/
theorem start1_in : StableHlo.after hostOps0_2 W (Proc.tc.devRef main_v18) = odds (startsIn W) := by
  after_results_simp
  refine congrArg (fun f => odds (named (W (Proc.tc.devRef main_arg1)) f)) (congrArg₂ shifted ?_ ?_) <;> after_results_simp <;> rfl
/-- The ends of the second children. -/
theorem end1_in : StableHlo.after hostOps0_2 W (Proc.tc.devRef main_v20) = odds (addi (startsIn W) (W (Proc.tc.devRef main_v0))) := by
  after_results_simp
  refine congrArg (fun f => odds (addi (named (W (Proc.tc.devRef main_arg1)) f) (W (Proc.tc.devRef main_v0)))) (congrArg₂ shifted ?_ ?_) <;> after_results_simp <;> rfl
/-- The counts of the first children, those of the second ones, and the transposed scores. -/
theorem plain_in : StableHlo.after hostOps0_2 W (Proc.tc.devRef main_v22) = evens (W (Proc.tc.devRef main_arg3))
    ∧ StableHlo.after hostOps0_2 W (Proc.tc.devRef main_v24) = odds (W (Proc.tc.devRef main_arg3))
    ∧ StableHlo.after hostOps0_2 W (Proc.tc.devRef main_v25)
      = transpose S1000x4096 [1, 0] (W (Proc.tc.devRef main_arg0)) transposes_S4096x1000_S1000x4096_1_0 := by
  refine ⟨?_, ?_, ?_⟩ <;> after_results_simp <;> rfl

end Rest

/-- The memory the region finds is the later operations' over the summed one. -/
theorem V0_eq : V0 m c = StableHlo.after hostOps0_2 (summed m c) := by
  unfold V0 summed
  rw [← after_append]
  rfl

/-- The segments' first classes in the memory with the sums. -/
theorem startsIn_summed : startsIn (summed m c) = starts (m ((c.tc : Thread nD τ).loc main_arg1)) (m ((c.tc : Thread nD τ).loc main_arg3)) := by
  obtain ⟨_, h1, h2, _, ha, _⟩ := summed_at m c
  unfold startsIn
  rw [h1, h2, ha]
  rfl

/-- The seven arrays the region finds. -/
theorem found : V m c main_v14 = evens (starts (m ((c.tc : Thread nD τ).loc main_arg1)) (m ((c.tc : Thread nD τ).loc main_arg3)))
    ∧ V m c main_v16 = evens (ends (m ((c.tc : Thread nD τ).loc main_arg1)) (m ((c.tc : Thread nD τ).loc main_arg3)))
    ∧ V m c main_v18 = odds (starts (m ((c.tc : Thread nD τ).loc main_arg1)) (m ((c.tc : Thread nD τ).loc main_arg3)))
    ∧ V m c main_v20 = odds (ends (m ((c.tc : Thread nD τ).loc main_arg1)) (m ((c.tc : Thread nD τ).loc main_arg3)))
    ∧ V m c main_v22 = evens (α := EReal) (m ((c.tc : Thread nD τ).loc main_arg3))
    ∧ V m c main_v24 = odds (α := EReal) (m ((c.tc : Thread nD τ).loc main_arg3))
    ∧ V m c main_v25 = transpose S1000x4096 [1, 0] (α := EReal) (m ((c.tc : Thread nD τ).loc main_arg0)) transposes_S4096x1000_S1000x4096_1_0 := by
  obtain ⟨h0, _, _, hx, _, hk⟩ := summed_at m c
  have hs := startsIn_summed m c
  obtain ⟨p0, p1, p2⟩ := plain_in (summed m c)
  unfold V ends
  rw [V0_eq, start0_in, end0_in, start1_in, end1_in, p0, p1, p2, hs, h0, hx, hk]
  exact ⟨rfl, rfl, rfl, rfl, rfl, rfl, rfl⟩

end Entry

/-- The first child's entry of node `r`. -/
theorem evens_at {α : Type} (y : S1998.Idx → α) (r : Fin 999) : evens y (ix2 r 0) = y (ix1 ⟨2 * r.val, by omega⟩) :=
  (broadcastInDim_apply _ _ _ _ (ix1 r) fun a => by match a with | ⟨0, _⟩ => rfl).trans
    ((Host.slice_apply _ _ _ _ _).trans (congrArg y (funext fun a => Fin.ext (by
      match a with | ⟨0, _⟩ => exact Nat.zero_add (2 * r.val)))))

/-- The second child's entry of node `r`. -/
theorem odds_at {α : Type} (y : S1998.Idx → α) (r : Fin 999) : odds y (ix2 r 0) = y (ix1 ⟨2 * r.val + 1, by omega⟩) :=
  (broadcastInDim_apply _ _ _ _ (ix1 r) fun a => by match a with | ⟨0, _⟩ => rfl).trans
    ((Host.slice_apply _ _ _ _ _).trans (congrArg y (funext fun a => Fin.ext (by
      match a with | ⟨0, _⟩ => exact Nat.add_comm 1 (2 * r.val)))))

/-- The gather of the starts at a segment: the list at the segment's index word, clamped into the list. -/
theorem gather_at (g : IVec S9976 32) (p : IVec S1998 32) (s : Fin 1998) :
    Host.gather gather_S9976_S1998x1_S1998_n_0_n_n_0_1_1 g (broadcastInDim S1998x1 ![0] bcast_S1998_S1998x1_0 p) (ix1 s)
      = g (ix1 ⟨min (p (ix1 s)).toInt.toNat 9975, by omega⟩) := by
  have hb : broadcastInDim S1998x1 ![0] bcast_S1998_S1998x1_0 p (ix2 s 0) = p (ix1 s) :=
    broadcastInDim_apply _ _ _ _ (ix1 s) fun a => by match a with | ⟨0, _⟩ => rfl
  generalize broadcastInDim S1998x1 ![0] bcast_S1998_S1998x1_0 p = idx at hb ⊢
  unfold Host.gather
  refine congrArg g (funext fun a => ?_)
  obtain rfl : a = 0 := Subsingleton.elim (α := Fin 1) _ _
  refine Fin.ext ?_
  generalize hd : gather_S9976_S1998x1_S1998_n_0_n_n_0_1_1 = d
  have hmap : d.startIndexMap = [0] := by rw [← hd]; rfl
  have hm : (0 : Fin 1) ∈ d.startIndexMap := by rw [hmap]; exact List.mem_singleton.2 rfl
  show d.start (ix1 s) idx 0 + d.batchCoord (ix1 s) 0 + d.offCoord (ix1 s) 0 = min (p (ix1 s)).toInt.toNat 9975
  rw [GatherDims.batchCoord_eq_zero _ _ _ (by rw [← hd]; exact List.not_mem_nil),
    GatherDims.offCoord_eq_zero _ _ _ (fun h => ((GatherDims.mem_sKept _ _).mp h).1 (by rw [← hd]; exact List.mem_singleton.mpr rfl))]
  unfold GatherDims.start
  rw [dif_pos hm]
  have hs : d.siIdx (ix1 s) ⟨d.startIndexMap.idxOf 0, List.idxOf_lt_length_iff.2 hm⟩ = ix2 s 0 := by
    subst hd
    funext b
    match b with
    | ⟨0, _⟩ => rfl
    | ⟨1, _⟩ => rfl
  rw [hs, hb]
  subst hd
  rfl

variable {g q : IVec S9976 32} {k : FVec Ideal S1998 .f32} {s : Fin 1998} {o n a : ℕ}

/-- The position a segment starts at is not negative, so it stands. -/
theorem place_at (r : Range g q k s o n a) : (wrapped (offset k) (ix1 s)).toInt = o := by
  have e := r.first
  unfold wrapped
  generalize offset k = f at e
  have ho : ¬ (f (ix1 s)).toInt < 0 := by rw [e]; omega
  rw [← e]
  show (Scalar.select (IntOp.cmpi .slt (f (ix1 s)) 0#32) _ (f (ix1 s))).toInt = _
  rw [eq_zero_of_ne_one (fun h => ho (IntOp.cmpi_slt.1 h)), select_zero]

/-- The class a segment starts at is the first of its range. -/
theorem starts_at (r : Range g q k s o n a) : (starts g k (ix1 s)).toInt = a := by
  have h1 := r.inList
  have h2 := r.pos
  have e : min (wrapped (offset k) (ix1 s)).toInt.toNat 9975 = o := by
    rw [place_at r, Int.toNat_natCast]; exact Nat.min_eq_left (by omega)
  have hc := r.cls ⟨o, by omega⟩ le_rfl (Nat.lt_add_of_pos_right h2)
  have hg : starts g k (ix1 s) = g (ix1 ⟨min (wrapped (offset k) (ix1 s)).toInt.toNat 9975, by omega⟩) := gather_at g (wrapped (offset k)) s
  rw [hg, show (⟨min (wrapped (offset k) (ix1 s)).toInt.toNat 9975, by omega⟩ : Fin 9976) = ⟨o, by omega⟩ from Fin.ext e, hc]
  show (a : ℤ) + ((o - o : ℕ) : ℤ) = a
  rw [Nat.sub_self]; exact add_zero _

/-- The class it ends before is the first after its range. -/
theorem ends_at (r : Range g q k s o n a) : (ends g k (ix1 s)).toInt = (a + n : ℕ) := by
  have h := r.inClasses
  show (starts g k (ix1 s) + number k (ix1 s)).toInt = _
  have e0 := starts_at r
  have e1 := r.length
  rw [toInt_add_of_fits _ _ (by omega) (by omega), e0, e1]
  push_cast; rfl

end Cert.Proof.Host

end
-- ==== Proof.Sums.lean ====
/-
  The reference's segment sums at a segment and a row of scores: the sum, over the positions that name the segment, of the
  score of the class gathered there.
-/
module

public import proofs.«01_k».proof.Proof.Reference
public import proofs.«01_k».proof.Proof.Stretch
public import Idealize.ShloMosaic.Lib.Routing.OpsPair

@[expose] public section

set_option maxRecDepth 16384

noncomputable section

namespace Cert.Proof.Sums

open Cert.ReferenceIdeal Cert.ReferenceIdeal.Gen Cert.Proof.Reference Cert.Proof.Stretch
open Idealize.ShloMosaic hiding ix1 ix2
open Idealize.ShloMosaic.ValueIdx

/-- A word per position, as a column. -/
theorem column_at (q : IVec S9976 32) (i : Fin 9976) :
    broadcastInDim S9976x1 ![0] bcast_S9976_S9976x1_0 q (ix2 i 0) = q (ix1 i) :=
  broadcastInDim_apply _ _ _ _ (ix1 i) fun a => by match a with | ⟨0, _⟩ => rfl

/-- The gather of rows at a position and a column: the row the position's word names, clamped into the table. -/
theorem rows_at (X : FVec Ideal S1000x4096 .f32) (idx : IVec S9976x1 32) (i : Fin 9976) (b : Fin 4096) :
    Host.gather gather_S1000x4096_S9976x1_S9976x4096_1_0_n_n_0_1_14096 X idx (ix2 i b)
      = X (ix2 ⟨min (idx (ix2 i 0)).toInt.toNat 999, by omega⟩ b) := by
  unfold Host.gather
  refine congrArg X (funext fun a => Fin.ext ?_)
  generalize hd : gather_S1000x4096_S9976x1_S9976x4096_1_0_n_n_0_1_14096 = d
  have hmap : d.startIndexMap = [0] := by rw [← hd]; rfl
  have hcol : d.collapsedSliceDims = [0] := by rw [← hd]; rfl
  show d.start (ix2 i b) idx a + d.batchCoord (ix2 i b) a + d.offCoord (ix2 i b) a = _
  rw [GatherDims.batchCoord_eq_zero _ _ _ (by rw [← hd]; exact List.not_mem_nil)]
  match a with
  | ⟨0, _⟩ =>
    have hm : (0 : Fin 2) ∈ d.startIndexMap := by rw [hmap]; exact List.mem_singleton.2 rfl
    rw [show (⟨0, _⟩ : Fin 2) = 0 from rfl,
      GatherDims.offCoord_eq_zero _ _ _ (fun h => ((GatherDims.mem_sKept _ _).mp h).1 (by rw [hcol]; exact List.mem_singleton.mpr rfl))]
    unfold GatherDims.start
    rw [dif_pos hm]
    have hs : d.siIdx (ix2 i b) ⟨d.startIndexMap.idxOf 0, List.idxOf_lt_length_iff.2 hm⟩ = ix2 i 0 := by
      subst hd
      funext b
      match b with
      | ⟨0, _⟩ => rfl
      | ⟨1, _⟩ => rfl
    rw [hs]
    subst hd
    rfl
  | ⟨1, _⟩ =>
    have hn : (1 : Fin 2) ∉ d.startIndexMap := by rw [hmap]; exact fun h => absurd (List.mem_singleton.1 h) (by decide)
    rw [show (⟨1, _⟩ : Fin 2) = 1 from rfl]
    unfold GatherDims.start
    rw [dif_neg hn]
    subst hd
    show 0 + 0 + b.val = b.val
    omega

/-- The transposed scores at a class and a row. -/
theorem transposed_at (x : FVec Ideal S4096x1000 .f32) (j : Fin 1000) (b : Fin 4096) :
    transpose S1000x4096 [1, 0] x transposes_S4096x1000_S1000x4096_1_0 (ix2 j b) = x (ix2 b j) :=
  congrArg x (funext fun a => by match a with | ⟨0, _⟩ => rfl | ⟨1, _⟩ => rfl)

/-- A gathered score, where the position names a class. -/
theorem gathered_at (x : FVec Ideal S4096x1000 .f32) (g : IVec S9976 32) (i : Fin 9976) (j : Fin 1000) (b : Fin 4096)
    (h : (g (ix1 i)).toInt = j.val) : gathered x g (ix2 i b) = x (ix2 b j) := by
  have hw : named g (ix1 i) = g (ix1 i) := by
    show Scalar.select (IntOp.cmpi .slt (g (ix1 i)) 0#32) _ (g (ix1 i)) = _
    rw [eq_zero_of_ne_one (fun e => absurd (show (g (ix1 i)).toInt < 0 from IntOp.cmpi_slt.1 e) (by omega)), select_zero]
  have hc := (column_at (named g) i).trans hw
  unfold gathered
  rw [rows_at, ← transposed_at x j b]
  refine congrArg (transpose S1000x4096 [1, 0] x transposes_S4096x1000_S1000x4096_1_0) (congrArg (fun t => ix2 t b) (Fin.ext ?_))
  show min (broadcastInDim S9976x1 ![0] bcast_S9976_S9976x1_0 (named g) (ix2 i 0)).toInt.toNat 999 = j.val
  have := j.isLt
  rw [hc, h, Int.toNat_natCast]
  exact Nat.min_eq_left (by omega)

/-- Where an update of the scatter lands: the segment its position names, in its own column. -/
theorem lands (idx : IVec S9976x1 32) (i : Fin 9976) (b' : Fin 4096) (s : Fin 1998) (b : Fin 4096) :
    scatter_S1998x4096_S9976x1_S9976x4096_1_0_0_1.resultIdx? (ix2 i b') idx = some (ix2 s b)
      ↔ (idx (ix2 i 0)).toInt = s.val ∧ b' = b := by
  rw [Routing.resultIdx?_ix2]
  generalize hd : scatter_S1998x4096_S9976x1_S9976x4096_1_0_0_1 = d
  have hmap : d.scatterDimsToOperandDims = [0] := by rw [← hd]; rfl
  have hm : (0 : Fin 2) ∈ d.scatterDimsToOperandDims := by rw [hmap]; exact List.mem_singleton.2 rfl
  have hn : (1 : Fin 2) ∉ d.scatterDimsToOperandDims := by rw [hmap]; exact fun h => absurd (List.mem_singleton.1 h) (by decide)
  have w0 : d.window (ix2 i b') 0 = 0 := by subst hd; rfl
  have w1 : d.window (ix2 i b') 1 = b'.val := by subst hd; rfl
  have s0 : d.start (ix2 i b') idx 0 = (idx (ix2 i 0)).toInt := by
    unfold ScatterDims.start
    rw [dif_pos hm]
    refine congrArg (fun z => (idx z).toInt) ?_
    subst hd
    funext b
    match b with
    | ⟨0, _⟩ => rfl
    | ⟨1, _⟩ => rfl
  have s1 : d.start (ix2 i b') idx 1 = 0 := by
    unfold ScatterDims.start
    rw [dif_neg hn]
  rw [w0, w1, s0, s1, Fin.ext_iff]
  omega

/-- The segment sums. -/
theorem sums_at (x : FVec Ideal S4096x1000 .f32) (g q : IVec S9976 32) (s : Fin 1998) (b : Fin 4096) :
    sums x g q (ix2 s b) = ∑ i ∈ Finset.univ.filter (fun i : Fin 9976 => (q (ix1 i)).toInt = s.val), gathered x g (ix2 i b) := by
  unfold sums
  generalize gathered x g = u
  show Ideal.hostScatterAdd _ _ _ _ _ = _
  unfold Ideal.hostScatterAdd
  have z : broadcastInDim S1998x4096 ![] bcast_S_S1998x4096 (constant (F := Ideal) S_ .f32 0x00000000#32) (ix2 s b) = 0 := Ideal.ofBits_zero_f32
  rw [z, zero_add]
  have mem : ∀ j : S9976x4096.Idx,
      scatter_S1998x4096_S9976x1_S9976x4096_1_0_0_1.resultIdx? j (broadcastInDim S9976x1 ![0] bcast_S9976_S9976x1_0 q) = some (ix2 s b)
        ↔ (q (ix1 (j 0))).toInt = s.val ∧ j 1 = b := fun j => by
    have e := lands (broadcastInDim S9976x1 ![0] bcast_S9976_S9976x1_0 q) (j 0) (j 1) s b
    rw [show broadcastInDim S9976x1 ![0] bcast_S9976_S9976x1_0 q (ix2 (j 0) 0) = q (ix1 (j 0)) from column_at q (j 0)] at e
    exact (iff_of_eq (congrArg (fun z => scatter_S1998x4096_S9976x1_S9976x4096_1_0_0_1.resultIdx? z
      (broadcastInDim S9976x1 ![0] bcast_S9976_S9976x1_0 q) = some (ix2 s b)) (ValueIdx.eq_ix2 j))).trans e
  refine Finset.sum_bij (fun j _ => j 0) ?_ ?_ ?_ ?_
  · intro j hj
    exact Finset.mem_filter.2 ⟨Finset.mem_univ _, ((mem j).1 (Finset.mem_filter.1 hj).2).1⟩
  · intro j hj j' hj' e
    have h1 := ((mem j).1 (Finset.mem_filter.1 hj).2).2
    have h2 := ((mem j').1 (Finset.mem_filter.1 hj').2).2
    exact (ValueIdx.eq_ix2 j).trans ((congrArg₂ ix2 e (h1.trans h2.symm)).trans (ValueIdx.eq_ix2 j').symm)
  · intro i hi
    exact ⟨ix2 i b, Finset.mem_filter.2 ⟨Finset.mem_univ _, (mem (ix2 i b)).2 ⟨(Finset.mem_filter.1 hi).2, rfl⟩⟩, rfl⟩
  · intro j hj
    have h1 := ((mem j).1 (Finset.mem_filter.1 hj).2).2
    exact congrArg u ((ValueIdx.eq_ix2 j).trans (congrArg (ix2 (j 0)) h1))

end Cert.Proof.Sums

end
-- ==== Proof.Logits.lean ====
/-
  The mean of a segment: the kernel's masked sum over the classes and the reference's sum over the gathered positions are one
  real number. From it, both programs' logits at a node, a row and a child.
-/
module

public import proofs.«01_k».proof.Proof.Host
public import proofs.«01_k».proof.Proof.Sums
public import Idealize.ShloMosaic.Lib.Pipeline.Value

@[expose] public section

set_option maxRecDepth 16384

noncomputable section

namespace Cert.Proof.Logits

open Cert.Proof.Segments Cert.Proof.Stretch Cert.Proof.Block Cert.Proof.Host Cert.Proof.Sums
open Idealize.ShloMosaic hiding ix1 ix2 ix3
open Idealize.ShloMosaic.ValueIdx

/-- A sum of real numbers is a real number. -/
theorem sum_real {ι : Type} (S : Finset ι) (f : ι → EReal) (h : ∀ i, f i ≠ ⊤ ∧ f i ≠ ⊥) : ∃ v : ℝ, ∑ i ∈ S, f i = (v : EReal) :=
  Finset.sum_induction f (fun y => ∃ v : ℝ, y = (v : EReal))
    (fun _ _ ⟨v, hv⟩ ⟨w, hw⟩ => ⟨v + w, by rw [hv, hw, EReal.coe_add]⟩) ⟨0, rfl⟩
    (fun i _ => ⟨(f i).toReal, (EReal.coe_toReal (h i).1 (h i).2).symm⟩)

/-- The kernel's masked sum of real numbers is the sum over the range of classes: the remainders it adds are zero. -/
theorem total_eq {s e : BitVec 32} {a n : ℕ} (hs : s.toInt = a) (he : e.toInt = (a + n : ℕ)) (X : Fin 1000 → EReal)
    (h : ∀ j, X j ≠ ⊤ ∧ X j ≠ ⊥) :
    total s e X = ∑ j ∈ Finset.univ.filter (fun j : Fin 1000 => a ≤ j.val ∧ j.val < a + n), X j := by
  unfold total
  rw [Finset.sum_eq_zero (s := Finset.univ) (f := fun j => inside s e j * (X j - X j))
    (fun j _ => by rw [EReal.sub_self (h j).1 (h j).2, mul_zero]), add_zero, Finset.sum_filter]
  refine Finset.sum_congr rfl fun j _ => ?_
  unfold inside
  rw [hs, he]
  by_cases c : a ≤ j.val ∧ j.val < a + n
  · rw [if_pos c, if_pos ⟨by exact_mod_cast c.1, by exact_mod_cast c.2⟩, one_mul]
  · rw [if_neg c, if_neg (fun d => c ⟨by exact_mod_cast d.1, by exact_mod_cast d.2⟩), zero_mul]

variable {x : FVec Ideal Cert.Pre_tree_segments.S4096x1000 .f32} {g q : IVec Cert.Pre_tree_segments.S9976 32}
  {k : FVec Ideal Cert.Pre_tree_segments.S1998 .f32}

/-- The reference's mean of a segment is its sum over its count. -/
theorem means_at (s : Fin 1998) (b : Fin 4096) :
    Reference.means x g q k (ix2 s b) = Ideal.div (Reference.sums x g q (ix2 s b)) (k (ix1 s)) := by
  unfold Reference.means
  refine congrArg (Ideal.div (Reference.sums x g q (ix2 s b))) ?_
  exact (broadcastInDim_apply _ _ _ _ (ix2 s 0) fun a => by match a with | ⟨0, _⟩ => rfl | ⟨1, _⟩ => rfl).trans
    (broadcastInDim_apply _ _ _ _ (ix1 s) fun a => by match a with | ⟨0, _⟩ => rfl)

/-- Both programs' mean of a segment is the same real number. -/
theorem mean_eq (h : Layout x g q k) (s : Fin 1998) (b : Fin 4096) :
    ∃ v : ℝ, mean (starts g k (ix1 s)) (ends g k (ix1 s)) (k (ix1 s)) (fun j => x (ix2 b j)) = (v : EReal)
      ∧ Reference.means x g q k (ix2 s b) = (v : EReal) := by
  obtain ⟨o, n, a, r⟩ := range_of_layout h s
  obtain ⟨t, ht⟩ := sum_real (Finset.univ.filter (fun j : Fin 1000 => a ≤ j.val ∧ j.val < a + n)) (fun j => x (ix2 b j)) fun j => h.finite _
  have e1 : total (starts g k (ix1 s)) (ends g k (ix1 s)) (fun j => x (ix2 b j)) = (t : EReal) :=
    (total_eq (starts_at r) (ends_at r) _ fun j => h.finite _).trans ht
  have e2 : Reference.sums x g q (ix2 s b) = (t : EReal) :=
    (sums_at x g q s b).trans ((sum_eq r (fun j => x (ix2 b j)) _ fun i j hi => gathered_at x g i j b hi).trans ht)
  have hk := h.whole (ix1 s)
  have hn : (((number k (ix1 s)).toInt : ℝ)) ≠ 0 := by
    have := h.count (ix1 s)
    exact_mod_cast (by omega : (number k (ix1 s)).toInt ≠ 0)
  refine ⟨t * (1 / ((number k (ix1 s)).toInt : ℝ)), ?_, ?_⟩
  · unfold mean
    rw [e1, hk, Ideal.div_coe hn, EReal.coe_mul]
  · rw [means_at, e2, hk, Ideal.div_coe hn, EReal.coe_mul]

/-- The reference's logit at a node, a row and a child is the mean of that child's segment. -/
theorem reference_at (r : Fin 999) (b : Fin 4096) (c : Fin 2) :
    Reference.logits x g q k (Idealize.ShloMosaic.ix3 r b c) = Reference.means x g q k (ix2 ⟨2 * r.val + c.val, by omega⟩ b) := by
  unfold Reference.logits
  generalize Reference.means x g q k = M
  refine (congrArg (shapeCast Cert.ReferenceIdeal.S999x2x4096 M _) (?_ : _ = Idealize.ShloMosaic.ix3 r c b)).trans (shapeCast_apply _ _ _ _ ?_)
  · exact funext fun a => by match a with | ⟨0, _⟩ => rfl | ⟨1, _⟩ => rfl | ⟨2, _⟩ => rfl
  · rw [Shape.rowMajor_val_two, Shape.rowMajor_val_three]
    show (2 * r.val + c.val) * 4096 + b.val = (r.val * 2 + c.val) * 4096 + b.val
    rw [Nat.mul_comm 2]

end Cert.Proof.Logits

end
-- ==== Proof.Odds.lean ====
/-
  The softmax of two real logits, its entropy and its larger child, as the two programs compute them over the extended reals.
-/
module

public import proofs.«01_k».proof.Proof.Block

@[expose] public section

noncomputable section

namespace Cert.Proof.Odds

open Idealize.ShloMosaic Cert.Proof.Block

/-- The softmax's first probability of the two reals `a` and `b`. -/
def left (a b : ℝ) : ℝ := (1 + Real.exp (b - a))⁻¹

/-- Its second probability. -/
def right (a b : ℝ) : ℝ := (1 + Real.exp (a - b))⁻¹

/-- An exponential over the sum of two, whatever real is taken off both exponents first. -/
theorem quotient (a b M : ℝ) : Real.exp (a - M) / (Real.exp (a - M) + Real.exp (b - M)) = left a b := by
  have e : Real.exp (b - M) = Real.exp (a - M) * Real.exp (b - a) := by rw [← Real.exp_add]; congr 1; ring
  have h1 := (Real.exp_pos (a - M)).ne'
  unfold left
  rw [e, ← mul_one_add, ← div_div, div_self h1, one_div]

theorem left_pos (a b : ℝ) : 0 < left a b := inv_pos.2 (by have := Real.exp_pos (b - a); linarith)
theorem right_eq (a b : ℝ) : right a b = left b a := rfl

/-- The two probabilities sum to one. -/
theorem one_sub_left (a b : ℝ) : 1 - left a b = right a b := by
  have h := Real.exp_pos (b - a)
  have e : Real.exp (a - b) = (Real.exp (b - a))⁻¹ := by rw [← Real.exp_neg]; congr 1; ring
  unfold left right
  rw [e]
  have h1 : 1 + Real.exp (b - a) ≠ 0 := by positivity
  field_simp
  ring

/-- The quotient over the extended reals. -/
theorem div_exp (a b M : ℝ) :
    Ideal.div (Ideal.exp ((a : EReal) - M)) (Ideal.exp ((a : EReal) - M) + Ideal.exp ((b : EReal) - M)) = (left a b : EReal) := by
  rw [← EReal.coe_sub, ← EReal.coe_sub, Ideal.exp_coe, Ideal.exp_coe, ← EReal.coe_add,
    Ideal.div_coe (by have := Real.exp_pos (a - M); have := Real.exp_pos (b - M); positivity), ← EReal.coe_mul, mul_one_div, quotient]

/-- The kernel's first probability. -/
theorem first_eq (a b : ℝ) : first (a : EReal) b = (left a b : EReal) := by
  unfold first left
  rw [zero_sub, ← EReal.coe_sub, ← EReal.coe_neg, Ideal.logistic_coe, neg_neg]

/-- The kernel's second probability inside the entropy. -/
theorem logistic_eq (a b : ℝ) : Ideal.logistic ((b : EReal) - a) = (right a b : EReal) := by
  unfold right
  rw [← EReal.coe_sub, Ideal.logistic_coe, neg_sub]

/-- The kernel's second probability as the host computes it. -/
theorem rest_eq (a b : ℝ) : 1 - first (a : EReal) b = (right a b : EReal) := by
  rw [first_eq, ← one_sub_left, EReal.coe_sub, EReal.coe_one]

/-- The kernel's entropy. -/
theorem surprise_eq (a b : ℝ) : surprise (a : EReal) b
    = -((left a b : EReal) * Ideal.log (left a b) + (right a b : EReal) * Ideal.log (right a b)) := by
  unfold surprise
  rw [first_eq, logistic_eq, zero_sub]

/-- The kernel's choice. -/
theorem choice_eq (a b : ℝ) : choice (a : EReal) b = if a < b then 1#32 else 0#32 := by
  unfold choice
  rw [← EReal.coe_sub]
  exact if_congr ((EReal.coe_pos).trans sub_pos) rfl rfl

end Cert.Proof.Odds

end
-- ==== Proof.Softmax.lean ====
/-
  The reference's probabilities, choice and entropy at a node and a row whose two logits are real numbers.
-/
module

public import proofs.«01_k».proof.Proof.Reference
public import proofs.«01_k».proof.Proof.Odds
public import Idealize.ShloMosaic.PureOps.Reduce
public import Idealize.ShloMosaic.Lib.Pointwise.Reduce

@[expose] public section

set_option maxRecDepth 16384

noncomputable section

namespace Cert.Proof.Softmax

open Cert.ReferenceIdeal Cert.ReferenceIdeal.Gen Cert.Proof.Reference Cert.Proof.Odds
open Idealize.ShloMosaic

/-- A value per node and row, at a child. -/
theorem both_at (y : FVec Ideal S999x4096 .f32) (r : Fin 999) (b : Fin 4096) (c : Fin 2) : both y (ix3 r b c) = y (ix2 r b) :=
  (broadcastInDim_apply _ _ _ _ (ix3 r b 0) fun a => by match a with | ⟨0, _⟩ => rfl | ⟨1, _⟩ => rfl | ⟨2, _⟩ => rfl).trans
    (broadcastInDim_apply _ _ _ _ (ix2 r b) fun a => by match a with | ⟨0, _⟩ => rfl | ⟨1, _⟩ => rfl)

/-- The sum over the two children. -/
theorem total_at (l : FVec Ideal S999x4096x2 .f32) (r : Fin 999) (b : Fin 4096) :
    total l (ix2 r b) = l (ix3 r b 0) + l (ix3 r b 1) := by
  unfold total
  rw [Host.reduceAdd_apply, Ideal.hostReduceAdd_def, Ideal.hostReduceAdd_r3_a2, Fin.sum_univ_two]
  rw [show constant (F := Ideal) S_ .f32 0x00000000#32 (Shape.Idx.first h_S_) = 0 from Ideal.ofBits_zero_f32, zero_add]
  rfl

/-- The bits of the constant the maximum starts from are minus infinity. -/
theorem bottom : Ideal.ofBits .f32 0xFF800000#32 = ⊥ := by simp [Ideal.ofBits, Ideal.ieee]

/-- A constant's entry is its word's value. -/
theorem constant_at (w : BitVec 32) (i : S_.Idx) : constant (F := Ideal) S_ .f32 w i = Ideal.ofBits .f32 w := rfl

/-- The constant spread over nodes and rows. -/
theorem spread_at (w : BitVec 32) (i : S999x4096.Idx) :
    broadcastInDim S999x4096 ![] bcast_S_S999x4096 (constant (F := Ideal) S_ .f32 w) i = Ideal.ofBits .f32 w := rfl

/-- The maximum over the two children, from minus infinity. -/
theorem top_at (l : FVec Ideal S999x4096x2 .f32) (r : Fin 999) (b : Fin 4096) :
    Host.reduce FloatOps.maximumf l (constant (F := Ideal) S_ .f32 0xFF800000#32) reducesTo_S999x4096x2_S999x4096_d2 h_S_ (ix2 r b)
      = max (l (ix3 r b 0)) (l (ix3 r b 1)) := by
  haveI : Std.Commutative (FloatOps.maximumf (F := Ideal) (φ := .f32)) := ⟨max_comm (α := EReal)⟩
  haveI : Std.Associative (FloatOps.maximumf (F := Ideal) (φ := .f32)) := ⟨max_assoc (α := EReal)⟩
  rw [Host.reduce_eq_fold, Shape.ReducesTo.fold_fiber_r3_a2]
  rw [show (Finset.univ : Finset (Fin 2)) = {0, 1} from rfl, Finset.fold_insert (by decide), Finset.fold_singleton]
  rw [constant_at, bottom]
  exact congrArg (max (l (ix3 r b 0))) (max_eq_left bot_le)

/-- The larger of two arrays' entries. -/
theorem maximumf_at (A B : FVec Ideal S999x4096 .f32) (i : S999x4096.Idx) : maximumf A B i = max (A i) (B i) := rfl

/-- The larger of the two children. -/
theorem peak_at (l : FVec Ideal S999x4096x2 .f32) (r : Fin 999) (b : Fin 4096) :
    peak l (ix2 r b) = max (l (ix3 r b 0)) (l (ix3 r b 1)) := by
  unfold peak
  rw [maximumf_at, spread_at, bottom, top_at]
  exact max_eq_right bot_le

variable {l : FVec Ideal S999x4096x2 .f32} {r : Fin 999} {b : Fin 4096} {u v : ℝ}

/-- The two probabilities. -/
theorem probs_at (hu : l (ix3 r b 0) = (u : EReal)) (hv : l (ix3 r b 1) = (v : EReal)) :
    probs l (ix3 r b 0) = (left u v : EReal) ∧ probs l (ix3 r b 1) = (right u v : EReal) := by
  have hp : peak l (ix2 r b) = ((max u v : ℝ) : EReal) := by
    rw [peak_at, hu, hv]; exact (EReal.coe_strictMono.monotone.map_max).symm
  have w : ∀ c : Fin 2, weights l (ix3 r b c) = Ideal.exp (l (ix3 r b c) - ((max u v : ℝ) : EReal)) := fun c => by
    show Ideal.exp (l (ix3 r b c) - both (peak l) (ix3 r b c)) = _
    rw [both_at, hp]
  have p : ∀ c : Fin 2, probs l (ix3 r b c) = Ideal.div (weights l (ix3 r b c)) (weights l (ix3 r b 0) + weights l (ix3 r b 1)) := fun c => by
    show Ideal.div (weights l (ix3 r b c)) (both (total (weights l)) (ix3 r b c)) = _
    rw [both_at, total_at]
  constructor
  · rw [p, w, w, hu, hv, div_exp]
  · rw [p, w, w, hu, hv, add_comm, div_exp, right_eq]

/-- The entropy. -/
theorem entropy_at (hu : l (ix3 r b 0) = (u : EReal)) (hv : l (ix3 r b 1) = (v : EReal)) :
    entropy (probs l) (ix2 r b) = -((left u v : EReal) * Ideal.log (left u v) + (right u v : EReal) * Ideal.log (right u v)) := by
  obtain ⟨h0, h1⟩ := probs_at hu hv
  show -(total (mulf (probs l) (Host.log (probs l))) (ix2 r b)) = _
  rw [total_at]
  show -(probs l (ix3 r b 0) * Ideal.log (probs l (ix3 r b 0)) + probs l (ix3 r b 1) * Ideal.log (probs l (ix3 r b 1))) = _
  rw [h0, h1]

/-- The argmax leaves its starting pair for a real logit. -/
theorem step_start (y : ℝ) (i j : BitVec 32) : reducer_argmax_f32_i32 (F := Ideal) (⊥, i) ((y : EReal), j) = ((y : EReal), j) := by
  have h1 : ¬ (y : EReal) < ⊥ := not_lt_bot
  have h2 : ¬ (⊥ : EReal) = (y : EReal) := (EReal.coe_ne_bot y).symm
  simp [reducer_argmax_f32_i32, Ideal.cmpf_def, Ideal.cmp, Scalar.select, IntOp.ori, IntOp.andi, h1, h2]

/-- The index the argmax keeps of two real logits: the larger one's, and the smaller index of two equal ones. -/
theorem step_real (x y : ℝ) (i j : BitVec 32) :
    (reducer_argmax_f32_i32 (F := Ideal) ((x : EReal), i) ((y : EReal), j)).2 = if y < x ∨ x = y ∧ i.slt j then i else j := by
  by_cases h1 : y < x <;> by_cases h2 : x = y <;> by_cases h3 : i.slt j <;>
    simp [reducer_argmax_f32_i32, Ideal.cmpf_def, Ideal.cmp, Scalar.select, IntOp.ori, IntOp.andi, IntOp.cmpi, h1, h2, h3]

/-- The pairs the argmax compares at a node and a row: the two children's, in some order. -/
theorem fiber_at (l : FVec Ideal S999x4096x2 .f32) (y : S999x4096x2.Idx → BitVec 32) (r : Fin 999) (b : Fin 4096) :
    Host.argReduceFiber l y reducesTo_S999x4096x2_S999x4096_d2 (ix2 r b) = [(l (ix3 r b 0), y (ix3 r b 0)), (l (ix3 r b 1), y (ix3 r b 1))] ∨
    Host.argReduceFiber l y reducesTo_S999x4096x2_S999x4096_d2 (ix2 r b) = [(l (ix3 r b 1), y (ix3 r b 1)), (l (ix3 r b 0), y (ix3 r b 0))] := by
  unfold Host.argReduceFiber
  have mem : ∀ n : Fin S999x4096x2.numel, n ∈ (List.finRange S999x4096x2.numel).filter (fun n =>
      reducesTo_S999x4096x2_S999x4096_d2.drop (S999x4096x2.rowMajor.symm n) = ix2 r b) ↔
      n = S999x4096x2.rowMajor (ix3 r b 0) ∨ n = S999x4096x2.rowMajor (ix3 r b 1) := fun n => by
    rw [List.mem_filter, decide_eq_true_iff, Shape.ReducesTo.fiber_r3_a2]
    constructor
    · rintro ⟨-, k, hk⟩
      have := (Equiv.symm_apply_eq _).1 hk.symm
      match k, this with
      | 0, h => exact .inl h
      | 1, h => exact .inr h
    · rintro (h | h)
      · exact ⟨List.mem_finRange _, 0, ((Equiv.symm_apply_eq _).2 h).symm⟩
      · exact ⟨List.mem_finRange _, 1, ((Equiv.symm_apply_eq _).2 h).symm⟩
  have ne : S999x4096x2.rowMajor (ix3 r b 0) ≠ S999x4096x2.rowMajor (ix3 r b 1) := fun h =>

    Fin.zero_ne_one (n := 0) (congrFun (S999x4096x2.rowMajor.injective h) 2)
  have nodup := (List.nodup_finRange S999x4096x2.numel).filter (fun n =>
    decide (reducesTo_S999x4096x2_S999x4096_d2.drop (S999x4096x2.rowMajor.symm n) = ix2 r b))
  have perm := (List.perm_ext_iff_of_nodup nodup (by simpa using ne :
    [S999x4096x2.rowMajor (ix3 r b 0), S999x4096x2.rowMajor (ix3 r b 1)].Nodup)).2 fun n => by rw [mem]; simp
  revert perm
  generalize (List.finRange S999x4096x2.numel).filter _ = L
  intro perm
  obtain ⟨p, q, rfl⟩ := List.length_eq_two.1 perm.length_eq
  rcases (by simpa using perm.subset (List.mem_cons_self) :
    p = S999x4096x2.rowMajor (ix3 r b 0) ∨ p = S999x4096x2.rowMajor (ix3 r b 1)) with rfl | rfl
  · have := List.singleton_perm_singleton.1 ((List.perm_cons _).1 perm)
    subst this
    left; simp only [List.map_cons, List.map_nil, Equiv.symm_apply_apply]
  · have := List.singleton_perm_singleton.1 ((List.perm_cons _).1 (perm.trans (List.Perm.swap _ _ _)))
    subst this
    right; simp only [List.map_cons, List.map_nil, Equiv.symm_apply_apply]

/-- The child's number at a child. -/
theorem child_at (r : Fin 999) (b : Fin 4096) : iotaInDim S999x4096x2 32 2 (ix3 r b 0) = 0#32 ∧ iotaInDim S999x4096x2 32 2 (ix3 r b 1) = 1#32 :=
  ⟨rfl, rfl⟩

/-- The argmax leaves the constant it starts from for a real logit. -/
theorem step_constant (y : ℝ) (i j : BitVec 32) : reducer_argmax_f32_i32 (F := Ideal)
    (constant (F := Ideal) S_ .f32 0xFF800000#32 (Shape.Idx.first h_S_), i) ((y : EReal), j) = ((y : EReal), j) := by
  rw [constant_at, bottom]
  exact step_start y i j

/-- The index the argmax keeps of the two children, compared in the first child's order or in the other. -/
theorem folded (u v : ℝ) (i : BitVec 32) (L : List (EReal × BitVec 32))
    (h : L = [((u : EReal), 0#32), ((v : EReal), 1#32)] ∨ L = [((v : EReal), 1#32), ((u : EReal), 0#32)]) :
    (L.foldl (reducer_argmax_f32_i32 (F := Ideal)) (constant (F := Ideal) S_ .f32 0xFF800000#32 (Shape.Idx.first h_S_), i)).2
      = if u < v then 1#32 else 0#32 := by
  have o : (0#32).slt 1#32 = true := by decide
  have o' : (1#32).slt 0#32 = false := by decide
  rcases h with rfl | rfl
  · rw [List.foldl_cons, step_constant, List.foldl_cons, List.foldl_nil, step_real, o]
    by_cases c : u < v
    · rw [if_pos c, if_neg (by rintro (h | h); exacts [lt_asymm c h, c.ne h.1])]
    · rw [if_neg c, if_pos (by rcases (not_lt.1 c).lt_or_eq with h | h; exacts [.inl h, .inr ⟨h.symm, rfl⟩])]
  · rw [List.foldl_cons, step_constant, List.foldl_cons, List.foldl_nil, step_real, o']
    by_cases c : u < v
    · rw [if_pos c, if_pos (.inl c)]
    · rw [if_neg c, if_neg (by rintro (h | h); exacts [c h, absurd h.2 (by decide)])]

end Cert.Proof.Softmax

end
-- ==== Proof.Choice.lean ====
/-
  The reference's choice at a node and a row whose two logits are real numbers.
-/
module

public import proofs.«01_k».proof.Proof.Softmax

@[expose] public section

set_option maxRecDepth 16384

noncomputable section

namespace Cert.Proof.Softmax

open Cert.ReferenceIdeal Cert.ReferenceIdeal.Gen Cert.Proof.Reference
open Idealize.ShloMosaic

/-- An argmax over the last axis is a fold over the compared pairs. -/
theorem argmax_at (f : EReal × BitVec 32 → EReal × BitVec 32 → EReal × BitVec 32) (l : FVec Ideal S999x4096x2 .f32)
    (y : S999x4096x2.Idx → BitVec 32) (z : FVec Ideal S_ .f32) (i : S_.Idx → BitVec 32) (j : S999x4096.Idx) :
    Host.argReduce (F := Ideal) (φ := .f32) f l y z i reducesTo_S999x4096x2_S999x4096_d2 h_S_ j
      = (Host.argReduceFiber l y reducesTo_S999x4096x2_S999x4096_d2 j).foldl f (z (Shape.Idx.first h_S_), i (Shape.Idx.first h_S_)) :=
  (congrFun (Ideal.argReduce_eq_reduce2 f l y z i _ _) j).trans (Host.reduce2_eq_foldl_fiber f l y z i _ _ j)

/-- The choices are whatever the argmax's indices are. -/
theorem preds_eq (l : FVec Ideal S999x4096x2 .f32) (X : S999x4096.Idx → BitVec 32)
    (h : ∀ j, (Host.argReduce (F := Ideal) (φ := .f32) (reducer_argmax_f32_i32 (F := Ideal)) l (iotaInDim S999x4096x2 32 2)
      (constant (F := Ideal) S_ .f32 0xFF800000#32) (constantI S_ 32 0#32) reducesTo_S999x4096x2_S999x4096_d2 h_S_ j).2 = X j) :
    preds l = X := by
  delta preds
  with_reducible exact funext h

/-- The choice as a fold. -/
theorem preds_fold (l : FVec Ideal S999x4096x2 .f32) : preds l = fun j =>
    ((Host.argReduceFiber l (iotaInDim S999x4096x2 32 2) reducesTo_S999x4096x2_S999x4096_d2 j).foldl
      (reducer_argmax_f32_i32 (F := Ideal)) (constant (F := Ideal) S_ .f32 0xFF800000#32 (Shape.Idx.first h_S_), constantI S_ 32 0#32 (Shape.Idx.first h_S_))).2 :=
  preds_eq l _ fun j => congrArg Prod.snd (argmax_at _ _ _ _ _ j)

variable {l : FVec Ideal S999x4096x2 .f32} {r : Fin 999} {b : Fin 4096} {u v : ℝ}

/-- The pairs compared where both logits are real numbers. -/
theorem fiber_real (hu : l (ix3 r b 0) = (u : EReal)) (hv : l (ix3 r b 1) = (v : EReal)) :
    Host.argReduceFiber l (iotaInDim S999x4096x2 32 2) reducesTo_S999x4096x2_S999x4096_d2 (ix2 r b) = [((u : EReal), 0#32), ((v : EReal), 1#32)] ∨
    Host.argReduceFiber l (iotaInDim S999x4096x2 32 2) reducesTo_S999x4096x2_S999x4096_d2 (ix2 r b) = [((v : EReal), 1#32), ((u : EReal), 0#32)] := by
  have f := fiber_at l (iotaInDim S999x4096x2 32 2) r b
  rw [hu, hv, (child_at r b).1, (child_at r b).2] at f
  exact f

/-- The chosen child. -/
theorem preds_at (hu : l (ix3 r b 0) = (u : EReal)) (hv : l (ix3 r b 1) = (v : EReal)) :
    preds l (ix2 r b) = if u < v then 1#32 else 0#32 :=
  (congrFun (preds_fold l) (ix2 r b)).trans (folded u v _ _ (fiber_real hu hv))

end Cert.Proof.Softmax

end
-- ==== Proof.Equal.lean ====
/-
  The two programs' four results are equal: at every node, row and child both programs' logits are the same two real
  numbers, and the other results are the same functions of those two.
-/
module

public import proofs.«01_k».proof.Proof.Logits
public import proofs.«01_k».proof.Proof.Choice
public import proofs.«01_k».proof.Proof.Run

@[expose] public section

set_option maxRecDepth 16384

noncomputable section

namespace Cert.Proof.Equal

open Cert.KernelIdeal Cert.KernelIdeal.Gen Cert.Proof.Segments Cert.Proof.Windows Cert.Proof.Run Cert.Proof.Block Cert.Proof.Odds
open Idealize.ShloMosaic Idealize.ShloMosaic.TcCoe

/-- The first array of a pair, at the first child. -/
theorem pair_first (A B : S999x4096.Idx → EReal) (r : Fin 999) (b : Fin 4096) : pair A B (ix3 r b 0) = A (ix2 r b) := by
  unfold pair
  refine (concatenate_pair_apply _ _ _ _ _).trans ((dif_pos (Nat.one_pos : (0 : ℕ) < 1)).trans ?_)
  exact broadcastInDim_apply _ _ _ _ (ix2 r b) fun a => by match a with | ⟨0, _⟩ => rfl | ⟨1, _⟩ => rfl

/-- The second array, at the second child. -/
theorem pair_second (A B : S999x4096.Idx → EReal) (r : Fin 999) (b : Fin 4096) : pair A B (ix3 r b 1) = B (ix2 r b) := by
  unfold pair
  refine (concatenate_pair_apply _ _ _ _ _).trans ((dif_neg (lt_irrefl 1 : ¬ (1 : ℕ) < 1)).trans ?_)
  exact broadcastInDim_apply _ _ _ _ (ix2 r b) fun a => by match a with | ⟨0, _⟩ => rfl | ⟨1, _⟩ => rfl

/-- One minus an array, at an index. -/
theorem rest_at (A : S999x4096.Idx → EReal) (i : S999x4096.Idx) : rest A i = 1 - A i :=
  congrArg (fun z : EReal => z - A i) Ideal.ofBits_one_f32

/-- Arrays of nodes, rows and children are equal when they are at both children. -/
theorem ext_children {A B : S999x4096x2.Idx → EReal} (h0 : ∀ r b, A (ix3 r b 0) = B (ix3 r b 0)) (h1 : ∀ r b, A (ix3 r b 1) = B (ix3 r b 1)) :
    A = B := by
  funext i
  have h : ∀ z : Fin 2, A (ix3 (i 0) (i 1) z) = B (ix3 (i 0) (i 1) z) := fun z => by
    match z with
    | 0 => exact h0 _ _
    | 1 => exact h1 _ _
  have e : i = ix3 (i 0) (i 1) (i 2) := funext fun a => by match a with | ⟨0, _⟩ => rfl | ⟨1, _⟩ => rfl | ⟨2, _⟩ => rfl
  exact (congrArg A e).trans ((h (i 2)).trans (congrArg B e).symm)

/-- Arrays of nodes and rows are equal when they are at every node and row. -/
theorem ext_rows {α : Type} {A B : S999x4096.Idx → α} (h : ∀ r b, A (ix2 r b) = B (ix2 r b)) : A = B := by
  funext i
  have e : i = ix2 (i 0) (i 1) := funext fun a => by match a with | ⟨0, _⟩ => rfl | ⟨1, _⟩ => rfl
  exact (congrArg A e).trans ((h (i 0) (i 1)).trans (congrArg B e).symm)

section Results
variable (m : (ℓ : Loc nD τ sig) → Buf (Elt Ideal) ℓ) (c : Dev nD)

/-- The four arguments. -/
abbrev scores : S4096x1000.Idx → EReal := m ((c.tc : Thread nD τ).loc main_arg0)
abbrev classes : S9976.Idx → BitVec 32 := m ((c.tc : Thread nD τ).loc main_arg1)
abbrev segments : S9976.Idx → BitVec 32 := m ((c.tc : Thread nD τ).loc main_arg2)
abbrev counts : S1998.Idx → EReal := m ((c.tc : Thread nD τ).loc main_arg3)

/-- The reference's logits of the kernel's arguments. -/
abbrev answer : Cert.ReferenceIdeal.S999x4096x2.Idx → EReal :=
  Cert.Proof.Reference.logits (F := Ideal) (scores m c) (classes m c) (segments m c) (counts m c)

/-- The kernel's first logit is the mean of the node's first segment. -/
theorem first_logit (r : Fin 999) (b : Fin 4096) : R0 m c (ix2 r b)
    = mean (Host.starts (classes m c) (counts m c) (ValueIdx.ix1 ⟨2 * r.val, by omega⟩)) (Host.ends (classes m c) (counts m c) (ValueIdx.ix1 ⟨2 * r.val, by omega⟩))
      (counts m c (ValueIdx.ix1 ⟨2 * r.val, by omega⟩)) (fun j => scores m c (ValueIdx.ix2 b j)) := by
  obtain ⟨h14, h16, h18, h20, h22, h24, h25⟩ := Host.found m c
  unfold R0 Windows.logits
  rw [h14, h16, h22, h25]
  exact congr (congr (congrArg₂ mean (Host.evens_at _ r) (Host.evens_at _ r)) (Host.evens_at _ r)) (funext fun j => Sums.transposed_at _ j b)

/-- The second logit is the mean of the second segment. -/
theorem second_logit (r : Fin 999) (b : Fin 4096) : R1 m c (ix2 r b)
    = mean (Host.starts (classes m c) (counts m c) (ValueIdx.ix1 ⟨2 * r.val + 1, by omega⟩)) (Host.ends (classes m c) (counts m c) (ValueIdx.ix1 ⟨2 * r.val + 1, by omega⟩))
      (counts m c (ValueIdx.ix1 ⟨2 * r.val + 1, by omega⟩)) (fun j => scores m c (ValueIdx.ix2 b j)) := by
  obtain ⟨h14, h16, h18, h20, h22, h24, h25⟩ := Host.found m c
  unfold R1 Windows.logits
  rw [h18, h20, h24, h25]
  exact congr (congr (congrArg₂ mean (Host.odds_at _ r) (Host.odds_at _ r)) (Host.odds_at _ r)) (funext fun j => Sums.transposed_at _ j b)

/-- At a node and a row there are two real numbers that are both programs' two logits. -/
theorem both_logits (h : Layout (scores m c) (classes m c) (segments m c) (counts m c)) (r : Fin 999) (b : Fin 4096) : ∃ u v : ℝ,
    R0 m c (ix2 r b) = (u : EReal) ∧ R1 m c (ix2 r b) = (v : EReal)
      ∧ answer m c (ix3 r b 0) = (u : EReal) ∧ answer m c (ix3 r b 1) = (v : EReal) := by
  obtain ⟨u, hu, hu'⟩ := Logits.mean_eq h ⟨2 * r.val, by omega⟩ b
  obtain ⟨v, hv, hv'⟩ := Logits.mean_eq h ⟨2 * r.val + 1, by omega⟩ b
  exact ⟨u, v, (first_logit m c r b).trans hu, (second_logit m c r b).trans hv,
    (Logits.reference_at r b 0).trans hu', (Logits.reference_at r b 1).trans hv'⟩

variable (h : Layout (scores m c) (classes m c) (segments m c) (counts m c))
include h

/-- The first results, the logits, are equal. -/
theorem logits_eq : answer m c = pair (R0 m c) (R1 m c) := by
  refine ext_children (fun r b => ?_) (fun r b => ?_)
  · obtain ⟨u, v, h0, h1, a0, a1⟩ := both_logits m c h r b
    exact a0.trans (h0.symm.trans (pair_first _ _ r b).symm)
  · obtain ⟨u, v, h0, h1, a0, a1⟩ := both_logits m c h r b
    exact a1.trans (h1.symm.trans (pair_second _ _ r b).symm)

/-- The second results, the probabilities, are equal. -/
theorem probs_eq : Cert.Proof.Reference.probs (F := Ideal) (answer m c) = pair (R2 m c) (rest (R2 m c)) := by
  refine ext_children (fun r b => ?_) (fun r b => ?_)
  · obtain ⟨u, v, h0, h1, a0, a1⟩ := both_logits m c h r b
    have e : R2 m c (ix2 r b) = (left u v : EReal) := by unfold R2; rw [h0, h1, first_eq]
    exact (Softmax.probs_at a0 a1).1.trans (e.symm.trans (pair_first _ _ r b).symm)
  · obtain ⟨u, v, h0, h1, a0, a1⟩ := both_logits m c h r b
    have e : rest (R2 m c) (ix2 r b) = (right u v : EReal) := by rw [rest_at]; unfold R2; rw [h0, h1, rest_eq]
    exact (Softmax.probs_at a0 a1).2.trans (e.symm.trans (pair_second _ _ r b).symm)

/-- The third results, the chosen children, are equal. -/
theorem preds_eq : Cert.Proof.Reference.preds (F := Ideal) (answer m c) = R3 m c := by
  refine ext_rows fun r b => ?_
  obtain ⟨u, v, h0, h1, a0, a1⟩ := both_logits m c h r b
  have e : R3 m c (ix2 r b) = if u < v then 1#32 else 0#32 := by unfold R3; rw [h0, h1, choice_eq]
  exact (Softmax.preds_at a0 a1).trans e.symm

/-- The fourth results, the entropies, are equal. -/
theorem entropy_eq : Cert.Proof.Reference.entropy (F := Ideal) (Cert.Proof.Reference.probs (answer m c)) = R4 m c := by
  refine ext_rows fun r b => ?_
  obtain ⟨u, v, h0, h1, a0, a1⟩ := both_logits m c h r b
  have e : R4 m c (ix2 r b) = -((left u v : EReal) * Ideal.log (left u v) + (right u v : EReal) * Ideal.log (right u v)) := by
    unfold R4; rw [h0, h1, surprise_eq]
  exact (Softmax.entropy_at a0 a1).trans e.symm

end Results

end Cert.Proof.Equal

end
-- ==== Proof.lean ====
/-
  The assembly: each claim from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Run
public import proofs.«01_k».proof.Proof.Reference
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel as printed runs to its end, leaves its arguments and counters as they were. -/
theorem kernel_frame : Cert.quiescent_Kernel (hKernel := Cert.Kernel.Gen.facts) :=
  fun m ρ _ => Cert.Proof.KernelFrame.run m ρ

/-- The kernel over the extended reals likewise. -/
theorem ideal_frame : Cert.quiescent_KernelIdeal (hKernelIdeal := Cert.KernelIdeal.Gen.facts) :=
  fun m ρ _ => (θ_run _ _ _).mono (fun _ h => ⟨fun c => (h.1 c).2, h.2⟩) (Cert.Proof.Run.run m ρ)

/-- The reference likewise. -/
theorem reference_frame : Cert.quiescent_ReferenceIdeal (hReferenceIdeal := Cert.ReferenceIdeal.Gen.facts) :=
  fun m ρ _ => (θ_run _ _ _).mono (fun r h => ⟨fun c => (h c).2, Cert.Proof.Reference.no_counter r.2.sem⟩) (Cert.Proof.Reference.run m ρ)

/-- The kernel over the extended reals, from a memory that meets the precondition: the frame needs no precondition. -/
theorem ideal_frame_pre : Cert.quiescent_KernelIdeal_pre_tree_segments (hKernelIdeal := Cert.KernelIdeal.Gen.facts)
    (hPre_tree_segments := Cert.Proof.Segments.facts) :=
  fun m ρ _ => ideal_frame m ρ trivial

/-- The reference likewise. -/
theorem reference_frame_pre : Cert.quiescent_ReferenceIdeal_pre_tree_segments (hReferenceIdeal := Cert.ReferenceIdeal.Gen.facts)
    (hPre_tree_segments := Cert.Proof.Segments.facts) :=
  fun m ρ _ => reference_frame m ρ trivial

/-- Over the extended reals the kernel and the reference, from the same arguments that meet the precondition, end with the
    same logits, probabilities, choices and entropies. -/
theorem algebraic : Cert.algebraic_KernelIdeal_ReferenceIdeal_pre_tree_segments (hKernelIdeal := Cert.KernelIdeal.Gen.facts)
    (hReferenceIdeal := Cert.ReferenceIdeal.Gen.facts) (hPre_tree_segments := Cert.Proof.Segments.facts) := by
  intro m ρ m' ρ' pre same
  have layout := fun c => Cert.Proof.Segments.layout_of_pre _ _ _ _ (pre c)
  refine ⟨fun c => Cert.Proof.Run.pair (Cert.Proof.Windows.R0 m c) (Cert.Proof.Windows.R1 m c),
    fun c => Cert.Proof.Run.pair (Cert.Proof.Windows.R2 m c) (Cert.Proof.Run.rest (Cert.Proof.Windows.R2 m c)),
    fun c => Cert.Proof.Windows.R3 m c, fun c => Cert.Proof.Windows.R4 m c, ?_, ?_⟩
  · refine (θ_run _ _ _).mono (fun r h c => ?_) (Cert.Proof.Run.run m ρ)
    obtain ⟨⟨h0, h1, h2, h3⟩, args⟩ := h.1 c
    exact ⟨h0, h1, h2, h3, args⟩
  · refine (θ_run _ _ _).mono (fun r h c => ?_) (Cert.Proof.Reference.run m' ρ')
    obtain ⟨⟨h0, h1, h2, h3⟩, args⟩ := h c
    obtain ⟨s0, s1, s2, s3⟩ := same c
    rw [s0, s1, s2, s3] at h0 h1 h2 h3
    exact ⟨h0.trans (Cert.Proof.Equal.logits_eq m c (layout c)), h1.trans (Cert.Proof.Equal.probs_eq m c (layout c)),
      h2.trans (Cert.Proof.Equal.preds_eq m c (layout c)), h3.trans (Cert.Proof.Equal.entropy_eq m c (layout c)), args⟩

/-- All the claims. -/
theorem claim : Cert.Claim := ⟨Cert.Kernel.Gen.facts, Cert.KernelIdeal.Gen.facts, Cert.ReferenceIdeal.Gen.facts, Cert.Proof.Segments.facts,
  kernel_frame, ideal_frame, ideal_frame_pre, reference_frame, reference_frame_pre, trivial, algebraic⟩

end Cert.Proof

end
